-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S26x1024x4096 : Shape := ⟨3, ![26, 1024, 4096]⟩
abbrev S26x1024x2048 : Shape := ⟨3, ![26, 1024, 2048]⟩
abbrev S128x4096 : Shape := ⟨2, ![128, 4096]⟩
abbrev S_ : Shape := ⟨0, ![]⟩
abbrev S26624x4096 : Shape := ⟨2, ![26624, 4096]⟩
abbrev S26624x2048 : Shape := ⟨2, ![26624, 2048]⟩
abbrev S26624x128 : Shape := ⟨2, ![26624, 128]⟩
abbrev S4096x26624 : Shape := ⟨2, ![4096, 26624]⟩
abbrev S4096x832 : Shape := ⟨2, ![4096, 832]⟩
abbrev S256x4096 : Shape := ⟨2, ![256, 4096]⟩
abbrev S256x2048 : Shape := ⟨2, ![256, 2048]⟩
abbrev S256x128 : Shape := ⟨2, ![256, 128]⟩
abbrev S4096x256 : Shape := ⟨2, ![4096, 256]⟩
abbrev S4096x128 : Shape := ⟨2, ![4096, 128]⟩
abbrev S2x128x128 : Shape := ⟨3, ![2, 128, 128]⟩
abbrev S8x4096 : Shape := ⟨2, ![8, 4096]⟩
abbrev S64x72x128 : Shape := ⟨3, ![64, 72, 128]⟩
abbrev S8x128 : Shape := ⟨2, ![8, 128]⟩
abbrev S1x72x128 : Shape := ⟨3, ![1, 72, 128]⟩
abbrev S72x128 : Shape := ⟨2, ![72, 128]⟩
abbrev S128x128 : Shape := ⟨2, ![128, 128]⟩
abbrev S4x128 : Shape := ⟨2, ![4, 128]⟩
abbrev S1x4x128 : Shape := ⟨3, ![1, 4, 128]⟩
abbrev S1x128x128 : Shape := ⟨3, ![1, 128, 128]⟩
abbrev S128x256 : Shape := ⟨2, ![128, 256]⟩
abbrev S256x256 : Shape := ⟨2, ![256, 256]⟩
abbrev S1x256 : Shape := ⟨2, ![1, 256]⟩
abbrev S32x256 : Shape := ⟨2, ![32, 256]⟩

abbrev nBuf : Space → Nat
  | .hbm => 30
  | .vmem => 18
  | .smem => 0
  | _ => 0

abbrev bufTy : (tb : Table) → Fin (tcTables nBuf tb) → BufTy
  | .hbm, ⟨0, _⟩ => ⟨S26x1024x4096, .bf16⟩
  | .hbm, ⟨1, _⟩ => ⟨S26x1024x2048, .bf16⟩
  | .hbm, ⟨2, _⟩ => ⟨S128x4096, .i32⟩
  | .hbm, ⟨3, _⟩ => ⟨S_, .i32⟩
  | .hbm, ⟨4, _⟩ => ⟨S_, .i32⟩
  | .hbm, ⟨5, _⟩ => ⟨S128x4096, .i32⟩
  | .hbm, ⟨6, _⟩ => ⟨S128x4096, .i32⟩
  | .hbm, ⟨7, _⟩ => ⟨S128x4096, .i32⟩
  | .hbm, ⟨8, _⟩ => ⟨S_, .i32⟩
  | .hbm, ⟨9, _⟩ => ⟨S128x4096, .i32⟩
  | .hbm, ⟨10, _⟩ => ⟨S128x4096, .i1⟩
  | .hbm, ⟨11, _⟩ => ⟨S128x4096, .i32⟩
  | .hbm, ⟨12, _⟩ => ⟨S128x4096, .i32⟩
  | .hbm, ⟨13, _⟩ => ⟨S_, .i32⟩
  | .hbm, ⟨14, _⟩ => ⟨S128x4096, .i32⟩
  | .hbm, ⟨15, _⟩ => ⟨S128x4096, .i1⟩
  | .hbm, ⟨16, _⟩ => ⟨S128x4096, .i1⟩
  | .hbm, ⟨17, _⟩ => ⟨S_, .i32⟩
  | .hbm, ⟨18, _⟩ => ⟨S128x4096, .i32⟩
  | .hbm, ⟨19, _⟩ => ⟨S128x4096, .i32⟩
  | .hbm, ⟨20, _⟩ => ⟨S128x4096, .i32⟩
  | .hbm, ⟨21, _⟩ => ⟨S128x4096, .i32⟩
  | .hbm, ⟨22, _⟩ => ⟨S128x4096, .i1⟩
  | .hbm, ⟨23, _⟩ => ⟨S128x4096, .bf16⟩
  | .hbm, ⟨24, _⟩ => ⟨S26624x4096, .bf16⟩
  | .hbm, ⟨25, _⟩ => ⟨S26624x2048, .bf16⟩
  | .hbm, ⟨26, _⟩ => ⟨S26624x4096, .fp8e4m3⟩
  | .hbm, ⟨27, _⟩ => ⟨S26624x128, .f32⟩
  | .hbm, ⟨28, _⟩ => ⟨S4096x26624, .fp8e4m3⟩
  | .hbm, ⟨29, _⟩ => ⟨S4096x832, .f32⟩
  | .local _ .vmem, ⟨0, _⟩ => ⟨S256x4096, .bf16⟩
  | .local _ .vmem, ⟨1, _⟩ => ⟨S256x4096, .bf16⟩
  | .local _ .vmem, ⟨2, _⟩ => ⟨S256x2048, .bf16⟩
  | .local _ .vmem, ⟨3, _⟩ => ⟨S256x2048, .bf16⟩
  | .local _ .vmem, ⟨4, _⟩ => ⟨S128x4096, .bf16⟩
  | .local _ .vmem, ⟨5, _⟩ => ⟨S256x4096, .fp8e4m3⟩
  | .local _ .vmem, ⟨6, _⟩ => ⟨S256x4096, .fp8e4m3⟩
  | .local _ .vmem, ⟨7, _⟩ => ⟨S256x128, .f32⟩
  | .local _ .vmem, ⟨8, _⟩ => ⟨S256x128, .f32⟩
  | .local _ .vmem, ⟨9, _⟩ => ⟨S4096x256, .fp8e4m3⟩
  | .local _ .vmem, ⟨10, _⟩ => ⟨S4096x256, .fp8e4m3⟩
  | .local _ .vmem, ⟨11, _⟩ => ⟨S4096x128, .f32⟩
  | .local _ .vmem, ⟨12, _⟩ => ⟨S4096x128, .f32⟩
  | .local _ .vmem, ⟨13, _⟩ => ⟨S256x4096, .f32⟩
  | .local _ .vmem, ⟨14, _⟩ => ⟨S2x128x128, .f32⟩
  | .local _ .vmem, ⟨15, _⟩ => ⟨S8x4096, .f32⟩
  | .local _ .vmem, ⟨16, _⟩ => ⟨S64x72x128, .f32⟩
  | .local _ .vmem, ⟨17, _⟩ => ⟨S128x4096, .f32⟩
  | _, _ => ⟨S26x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7_0 : Ref sig .tc := ⟨.hbm, 26, rfl⟩
abbrev main_v7_1 : Ref sig .tc := ⟨.hbm, 27, rfl⟩
abbrev main_v7_2 : Ref sig .tc := ⟨.hbm, 28, rfl⟩
abbrev main_v7_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![104], ![false]⟩

def k0_mult1 (i : grid0.Coords) : BitVec 32 :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  v10
def k0_off1 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v181 : Index := Scalar.indexCast v11
  let c0_83 : Index := 0#32
  ![v181.toNat, 0]
def k0_off2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v334 : Index := Scalar.indexCast v11
  let c2048_174 : Index := 2048#32
  ![v334.toNat, 2048]
def k0_off3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v816 : Index := Scalar.indexCast v11
  let c128_451 : Index := 128#32
  ![v816.toNat, 128]
def k0_off4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v969 : Index := Scalar.indexCast v11
  let c2176_541 : Index := 2176#32
  ![v969.toNat, 2176]
def k0_off5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v1451 : Index := Scalar.indexCast v11
  let c256_819 : Index := 256#32
  ![v1451.toNat, 256]
def k0_off6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v1604 : Index := Scalar.indexCast v11
  let c2304_909 : Index := 2304#32
  ![v1604.toNat, 2304]
def k0_off7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v2086 : Index := Scalar.indexCast v11
  let c384_1185 : Index := 384#32
  ![v2086.toNat, 384]
def k0_off8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v2239 : Index := Scalar.indexCast v11
  let c2432_1275 : Index := 2432#32
  ![v2239.toNat, 2432]
def k0_off9 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v2721 : Index := Scalar.indexCast v11
  let c512_1552 : Index := 512#32
  ![v2721.toNat, 512]
def k0_off10 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v2874 : Index := Scalar.indexCast v11
  let c2560_1642 : Index := 2560#32
  ![v2874.toNat, 2560]
def k0_off11 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v3356 : Index := Scalar.indexCast v11
  let c640_1918 : Index := 640#32
  ![v3356.toNat, 640]
def k0_off12 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v3509 : Index := Scalar.indexCast v11
  let c2688_2008 : Index := 2688#32
  ![v3509.toNat, 2688]
def k0_off13 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v3991 : Index := Scalar.indexCast v11
  let c768_2284 : Index := 768#32
  ![v3991.toNat, 768]
def k0_off14 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v4144 : Index := Scalar.indexCast v11
  let c2816_2374 : Index := 2816#32
  ![v4144.toNat, 2816]
def k0_off15 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v4626 : Index := Scalar.indexCast v11
  let c896_2650 : Index := 896#32
  ![v4626.toNat, 896]
def k0_off16 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v4779 : Index := Scalar.indexCast v11
  let c2944_2740 : Index := 2944#32
  ![v4779.toNat, 2944]
def k0_off17 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v5261 : Index := Scalar.indexCast v11
  let c1024_3016 : Index := 1024#32
  ![v5261.toNat, 1024]
def k0_off18 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v5414 : Index := Scalar.indexCast v11
  let c3072_3106 : Index := 3072#32
  ![v5414.toNat, 3072]
def k0_off19 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v5896 : Index := Scalar.indexCast v11
  let c1152_3382 : Index := 1152#32
  ![v5896.toNat, 1152]
def k0_off20 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v6049 : Index := Scalar.indexCast v11
  let c3200_3472 : Index := 3200#32
  ![v6049.toNat, 3200]
def k0_off21 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v6531 : Index := Scalar.indexCast v11
  let c1280_3749 : Index := 1280#32
  ![v6531.toNat, 1280]
def k0_off22 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v6684 : Index := Scalar.indexCast v11
  let c3328_3839 : Index := 3328#32
  ![v6684.toNat, 3328]
def k0_off23 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v7166 : Index := Scalar.indexCast v11
  let c1408_4115 : Index := 1408#32
  ![v7166.toNat, 1408]
def k0_off24 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v7319 : Index := Scalar.indexCast v11
  let c3456_4205 : Index := 3456#32
  ![v7319.toNat, 3456]
def k0_off25 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v7801 : Index := Scalar.indexCast v11
  let c1536_4481 : Index := 1536#32
  ![v7801.toNat, 1536]
def k0_off26 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v7954 : Index := Scalar.indexCast v11
  let c3584_4571 : Index := 3584#32
  ![v7954.toNat, 3584]
def k0_off27 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v8436 : Index := Scalar.indexCast v11
  let c1664_4847 : Index := 1664#32
  ![v8436.toNat, 1664]
def k0_off28 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v8589 : Index := Scalar.indexCast v11
  let c3712_4937 : Index := 3712#32
  ![v8589.toNat, 3712]
def k0_off29 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v9071 : Index := Scalar.indexCast v11
  let c1792_5213 : Index := 1792#32
  ![v9071.toNat, 1792]
def k0_off30 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v9224 : Index := Scalar.indexCast v11
  let c3840_5303 : Index := 3840#32
  ![v9224.toNat, 3840]
def k0_off31 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v9706 : Index := Scalar.indexCast v11
  let c1920_5579 : Index := 1920#32
  ![v9706.toNat, 1920]
def k0_off32 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let v9859 : Index := Scalar.indexCast v11
  let c3968_5669 : Index := 3968#32
  ![v9859.toNat, 3968]
def k0_cond1 (i : grid0.Coords) : BitVec 1 :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := v10
  let c120_i32 : BitVec 32 := 120#32
  let v11692 : BitVec 1 := Scalar.cmpi .eq v11 c120_i32
  let c103_i32 : BitVec 32 := 103#32
  let v11691 : BitVec 1 := Scalar.cmpi .eq arg0 c103_i32
  let v11693 : BitVec 1 := Scalar.ori v11692 v11691
  let v11694 : BitVec 32 := Scalar.extui v11693
  let c0_i32_6551 : BitVec 32 := 0#32
  let v11695 : BitVec 1 := Scalar.cmpi .ne v11694 c0_i32_6551
  v11695

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "ln2" => some ((Real.log 2 : ℝ) : EReal)
  | "neg_log2e" => some ((-((Real.log 2)⁻¹) : ℝ) : EReal)
  | _ => none
-- ==== ReferenceIdeal.lean ====
abbrev S26x1024x4096 : Shape := ⟨3, ![26, 1024, 4096]⟩
abbrev S26x1024x2048 : Shape := ⟨3, ![26, 1024, 2048]⟩
abbrev S26624x4096 : Shape := ⟨2, ![26624, 4096]⟩
abbrev S26624x2048 : Shape := ⟨2, ![26624, 2048]⟩
abbrev S26624x128 : Shape := ⟨2, ![26624, 128]⟩
abbrev S4096x26624 : Shape := ⟨2, ![4096, 26624]⟩
abbrev S4096x832 : Shape := ⟨2, ![4096, 832]⟩
abbrev S26624x128x32 : Shape := ⟨3, ![26624, 128, 32]⟩
abbrev S26624x128x1 : Shape := ⟨3, ![26624, 128, 1]⟩
abbrev S4096x832x32 : Shape := ⟨3, ![4096, 832, 32]⟩
abbrev S4096x832x1 : Shape := ⟨3, ![4096, 832, 1]⟩

abbrev nBuf : Space → Nat
  | .hbm => 8
  | .vmem => 6
  | .smem => 0
  | _ => 0

abbrev bufTy : (tb : Table) → Fin (tcTables nBuf tb) → BufTy
  | .hbm, ⟨0, _⟩ => ⟨S26x1024x4096, .bf16⟩
  | .hbm, ⟨1, _⟩ => ⟨S26x1024x2048, .bf16⟩
  | .hbm, ⟨2, _⟩ => ⟨S26624x4096, .bf16⟩
  | .hbm, ⟨3, _⟩ => ⟨S26624x2048, .bf16⟩
  | .hbm, ⟨4, _⟩ => ⟨S26624x4096, .fp8e4m3⟩
  | .hbm, ⟨5, _⟩ => ⟨S26624x128, .f32⟩
  | .hbm, ⟨6, _⟩ => ⟨S4096x26624, .fp8e4m3⟩
  | .hbm, ⟨7, _⟩ => ⟨S4096x832, .f32⟩
  | .local _ .vmem, ⟨0, _⟩ => ⟨S26624x4096, .bf16⟩
  | .local _ .vmem, ⟨1, _⟩ => ⟨S26624x2048, .bf16⟩
  | .local _ .vmem, ⟨2, _⟩ => ⟨S26624x4096, .fp8e4m3⟩
  | .local _ .vmem, ⟨3, _⟩ => ⟨S26624x128, .f32⟩
  | .local _ .vmem, ⟨4, _⟩ => ⟨S4096x26624, .fp8e4m3⟩
  | .local _ .vmem, ⟨5, _⟩ => ⟨S4096x832, .f32⟩
  | _, _ => ⟨S26x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S26624x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S26624x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S26624x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S26624x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x26624 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x832 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Program.lean ====
/-
  THE KERNEL'S BODY, WRITTEN ONCE. One grid step of the kernel is sixteen column chunks, two tiles of row scales,
  sixteen column tiles of codes and, at the end of a window of scales, a write-back of the accumulated columns' scales.
  The printed program is this text unrolled; here each repeated stretch is one definition over the buffers it
  touches, so that what it does is proved once. Nothing here depends on the format of the numbers: the two
  constants of the elementwise part (`nl2` = -1/log 2 and `l2` = log 2) are parameters.
-/
module

public import Idealize.ShloMosaic.Lib.Pipeline
public import Idealize.ShloMosaic.PureOps
public import Idealize.ShloMosaic.Lib.Tactic

@[expose] public section

noncomputable section

namespace Cert.Swiglu

open Idealize.ShloMosaic Idealize.SL.Sem

abbrev S256x4096 : Shape := ⟨2, ![256, 4096]⟩
abbrev S256x2048 : Shape := ⟨2, ![256, 2048]⟩
abbrev S128x4096 : Shape := ⟨2, ![128, 4096]⟩
abbrev S256x128 : Shape := ⟨2, ![256, 128]⟩
abbrev S4096x256 : Shape := ⟨2, ![4096, 256]⟩
abbrev S4096x128 : Shape := ⟨2, ![4096, 128]⟩
abbrev S2x128x128 : Shape := ⟨3, ![2, 128, 128]⟩
abbrev S8x4096 : Shape := ⟨2, ![8, 4096]⟩
abbrev S64x72x128 : Shape := ⟨3, ![64, 72, 128]⟩
abbrev S1x72x128 : Shape := ⟨3, ![1, 72, 128]⟩
abbrev S72x128 : Shape := ⟨2, ![72, 128]⟩
abbrev S8x128 : Shape := ⟨2, ![8, 128]⟩
abbrev S4x128 : Shape := ⟨2, ![4, 128]⟩
abbrev S1x4x128 : Shape := ⟨3, ![1, 4, 128]⟩
abbrev S1x128x128 : Shape := ⟨3, ![1, 128, 128]⟩
abbrev S128x128 : Shape := ⟨2, ![128, 128]⟩
abbrev S128x256 : Shape := ⟨2, ![128, 256]⟩
abbrev S256x256 : Shape := ⟨2, ![256, 256]⟩
abbrev S1x256 : Shape := ⟨2, ![1, 256]⟩
abbrev S32x256 : Shape := ⟨2, ![32, 256]⟩

/-- A rectangle of a matrix lies inside it if its two ranges do. -/
theorem inb2 {h w a b p q : Nat} (h₁ : p + a ≤ h) (h₂ : q + b ≤ w) :
    ∀ x, (![p, q] : Fin 2 → Nat) x + (⟨2, ![a, b]⟩ : Shape).size x ≤ (⟨2, ![h, w]⟩ : Shape).size x := by
  intro x; fin_cases x
  · exact h₁
  · exact h₂

/-- A box of a three-dimensional array lies inside it if its three ranges do. -/
theorem inb3 {l h w z a b n p q : Nat} (h₀ : n + z ≤ l) (h₁ : p + a ≤ h) (h₂ : q + b ≤ w) :
    ∀ x, (![n, p, q] : Fin 3 → Nat) x + (⟨3, ![z, a, b]⟩ : Shape).size x ≤ (⟨3, ![l, h, w]⟩ : Shape).size x := by
  intro x; fin_cases x
  · exact h₀
  · exact h₁
  · exact h₂

/-- The rectangle `a × b` of a matrix `h × w` at row `p`, column `q`. -/
abbrev rect2 (h w a b p q : Nat) (h₁ : p + a ≤ h) (h₂ : q + b ≤ w) : Rect ⟨2, ![h, w]⟩ :=
  Rect.unit (s := ⟨2, ![h, w]⟩) ![p, q] (⟨2, ![a, b]⟩ : Shape).size (inb2 h₁ h₂)

/-- The box `z × a × b` of an array `l × h × w`. -/
abbrev rect3 (l h w z a b n p q : Nat) (h₀ : n + z ≤ l) (h₁ : p + a ≤ h) (h₂ : q + b ≤ w) : Rect ⟨3, ![l, h, w]⟩ :=
  Rect.unit (s := ⟨3, ![l, h, w]⟩) ![n, p, q] (⟨3, ![z, a, b]⟩ : Shape).size (inb3 h₀ h₁ h₂)

theorem strided_inb {s : Nat} (hs : s < 8) :
    ∀ a, S8x128.size a = 0 ∨ (![s, 0] : Fin 2 → Nat) a + (![9, 1] : Fin 2 → Nat) a * (S8x128.size a - 1) < S72x128.size a := by
  intro x; right; fin_cases x
  · change s + 9 * (8 - 1) < 72; omega
  · change 0 + 1 * (128 - 1) < 128; omega

theorem strided_pos : ∀ a, 0 < (![9, 1] : Fin 2 → Nat) a := by
  intro x; fin_cases x <;> decide

/-- Every ninth row of a slab, from row `s` on: eight rows. -/
abbrev strided (s : Nat) (hs : s < 8) : Rect S72x128 :=
  ⟨(⟨![s, 0], S8x128.size, ![9, 1], strided_inb hs⟩ : LoadRect S72x128), strided_pos⟩

theorem slices2 {h w a b p q : Nat} (h₁ : p + a ≤ h) (h₂ : q + b ≤ w) :
    (⟨2, ![h, w]⟩ : Shape).Slices ![p, q] ⟨2, ![a, b]⟩ := by
  refine ⟨rfl, fun x => ?_⟩; fin_cases x
  · exact h₁
  · exact h₂

/-! ## The pure steps -/

section Pure

variable {F : FTy → Type} [FloatOps F]

/-- The maximum of four vectors, left to right. -/
def max4 {s : Shape} (a b c d : FVec F s .f32) : FVec F s .f32 := maximumf (maximumf (maximumf a b) c) d

/-- Rows `p .. p+8` of a matrix with 128 columns. -/
def rows8 {h : Nat} (v : FVec F ⟨2, ![h, 128]⟩ .f32) (p : Nat) (hp : p + 8 ≤ h) : FVec F S8x128 .f32 :=
  extractStridedSlice S8x128 ![p, 0] v (slices2 hp (by omega))

/-- The partial maxima of the 32 rows from row `p`: eight rows, each the maximum of four. -/
def group {h : Nat} (v : FVec F ⟨2, ![h, 128]⟩ .f32) (p : Nat) (hp : p + 32 ≤ h) : FVec F S8x128 .f32 :=
  max4 (rows8 v p (by omega)) (rows8 v (p + 8) (by omega)) (rows8 v (p + 16) (by omega)) (rows8 v (p + 24) (by omega))

/-- The power-of-two scale of a group whose largest magnitude is `m`. -/
def pow2 {s : Shape} (l2 : F .f32) (m : FVec F s .f32) : FVec F s .f32 :=
  let q := mulf m (broadcast s (Scalar.ofBits .f32 0x3B124925#32))
  select (cmpf .oeq q (broadcast s (Scalar.ofBits .f32 0x00000000#32)))
    (broadcast s (Scalar.ofBits .f32 0x3F800000#32))
    (exp2 (addf (floor (divf (log q) (broadcast s l2))) (broadcast s (Scalar.ofBits .f32 0x3F800000#32))))

/-- The reciprocal of a scale. -/
def inv {s : Shape} (v : FVec F s .f32) : FVec F s .f32 := divf (broadcast s (Scalar.ofBits .f32 0x3F800000#32)) v

/-- The code of `v` under the reciprocal scale `r`: the product, clipped to ±448 and rounded. -/
def quant {s : Shape} (v r : FVec F s .f32) : FVec F s .fp8e4m3 :=
  truncf .fp8e4m3 (minimumf (broadcast s (Scalar.ofBits .f32 0x43E00000#32))
    (maximumf (broadcast s (Scalar.ofBits .f32 0xC3E00000#32)) (mulf v r))) (by decide)

/-- The logistic function of the gate, by a power of two. -/
def sig {s : Shape} (nl2 : F .f32) (g : FVec F s .f32) : FVec F s .f32 :=
  reciprocal true (addf (broadcast s (Scalar.ofBits .f32 0x3F800000#32)) (exp2 (mulf g (broadcast s nl2))))

/-- The gradient of the gate. -/
def dgate {s : Shape} (nl2 : F .f32) (g u dy : FVec F s .f32) : FVec F s .f32 :=
  mulf (mulf (mulf dy u) (sig nl2 g)) (addf (broadcast s (Scalar.ofBits .f32 0x3F800000#32))
    (mulf g (subf (broadcast s (Scalar.ofBits .f32 0x3F800000#32)) (sig nl2 g))))

/-- The gradient of the other half. -/
def dup {s : Shape} (nl2 : F .f32) (g dy : FVec F s .f32) : FVec F s .f32 :=
  mulf (mulf dy g) (sig nl2 g)

/-- A loaded block widened. -/
def wide (v : Vec F S256x128 .bf16) : FVec F S256x128 .f32 :=
  extf .f32 (shapeCast S256x128 v rfl : FVec F S256x128 .bf16) (by decide)

end Pure

/-! ## The memory steps, each given what follows it -/

section Steps

variable {nD : Nat} {τ : Topo} {sig : RefSig} {Λ : Labels} {F : FTy → Type} [FloatOps F]

set_option quotPrecheck false in
local notation "ℙ" => Prog (TpuEff nD τ sig (Elt F) Λ (Proc.tc : Proc τ)) PUnit

/-- Load a rectangle. -/
def ld {s : Shape} {e : EltTy} (m : Memref sig .tc .vmem s e) (r : LoadRect s) (h : 0 < r.shape.numel)
    (k : (r.shape.Idx → Elt F e) → ℙ) : ℙ :=
  .op (.load m r (View.loadsAt_vmem h)) k

/-- Read a rectangle of words and overwrite it. -/
def st {s : Shape} (m : Memref sig .tc .vmem s .f32) (r : Rect s) (h : 0 < r.shape.numel)
    (w : r.shape.Idx → Elt F .f32) (k : ℙ) : ℙ :=
  .op (.load m r.toLoadRect (View.loadsAt_vmem h)) fun _ =>
    .op (.store m r w Finset.univ (View.stores_vmem_bits_univ h rfl) (.inl rfl)) fun _ => k

/-- Read a rectangle of codes and overwrite it. -/
def st8 {s : Shape} (m : Memref sig .tc .vmem s .fp8e4m3) (r : Rect s) (h : 0 < r.shape.numel)
    (hx : (m.access r).Stores Finset.univ)
    (w : r.shape.Idx → Elt F .fp8e4m3) (k : ℙ) : ℙ :=
  .op (.load m r.toLoadRect (View.loadsAt_vmem h)) fun _ =>
    .op (.store m r w Finset.univ hx (.inl rfl)) fun _ => k

/-- Plane `n` of the slab buffer. -/
abbrev plane (m : Memref sig .tc .vmem S64x72x128 .f32) (n : Nat) (hn : n < 64) : Memref sig .tc .vmem S72x128 .f32 :=
  (m.slice (rect3 64 72 128 1 72 128 n 0 0 (by omega) (by omega) (by omega)) (fun _ => rfl)).squeeze S72x128
    (by decide : S1x72x128.Squeezes S72x128)

theorem pos8x128 : 0 < S8x128.numel := by decide

/-- Load rows `9t .. 9t+8` of a slab. -/
def ldRow (m : Memref sig .tc .vmem S72x128 .f32) (p : Nat) (hp : p + 8 ≤ 72)
    (k : (S8x128.Idx → Elt F .f32) → ℙ) : ℙ :=
  ld m (rect2 72 128 8 128 p 0 hp (by omega)).toLoadRect pos8x128 k

/-- Overwrite every ninth row of a slab, from row `s` on. -/
def stRow (m : Memref sig .tc .vmem S72x128 .f32) (s : Nat) (hs : s < 8) (w : FVec F S8x128 .f32) (k : ℙ) : ℙ :=
  st m (strided s hs) pos8x128 (shapeCast S8x128 w rfl) k

/-- Eight vectors of eight rows go through a slab: row `r` of what is handed on is the maximum of vector `r`. -/
def sublane (m : Memref sig .tc .vmem S72x128 .f32) (p : Fin 8 → FVec F S8x128 .f32)
    (k : FVec F S8x128 .f32 → ℙ) : ℙ :=
  stRow m 0 (by omega) (p 0) <| stRow m 1 (by omega) (p 1) <| stRow m 2 (by omega) (p 2) <|
  stRow m 3 (by omega) (p 3) <| stRow m 4 (by omega) (p 4) <| stRow m 5 (by omega) (p 5) <|
  stRow m 6 (by omega) (p 6) <| stRow m 7 (by omega) (p 7) <|
  ldRow m 0 (by omega) fun a0 => ldRow m 9 (by omega) fun a1 => ldRow m 18 (by omega) fun a2 =>
  ldRow m 27 (by omega) fun a3 => ldRow m 36 (by omega) fun a4 => ldRow m 45 (by omega) fun a5 =>
  ldRow m 54 (by omega) fun a6 => ldRow m 63 (by omega) fun a7 =>
  k (maximumf (maximumf (maximumf (maximumf (maximumf (maximumf (maximumf a0 a1 : FVec F S8x128 .f32) a2) a3) a4) a5) a6) a7)

/-- The eight row groups of a block of 256 rows. -/
def groups256 (v : FVec F S256x128 .f32) : Fin 8 → FVec F S8x128 .f32 :=
  ![group v 0 (by omega), group v 32 (by omega), group v 64 (by omega), group v 96 (by omega),
    group v 128 (by omega), group v 160 (by omega), group v 192 (by omega), group v 224 (by omega)]

/-- Half `t` of a block of 256 rows, transposed. -/
def half (v : FVec F S256x128 .f32) (p : Nat) (hp : p + 128 ≤ 256) : FVec F S128x128 .f32 :=
  transpose S128x128 [1, 0] (extractStridedSlice S128x128 ![p, 0] v (slices2 hp (by omega)) : FVec F S128x128 .f32) (by decide)

/-- The four groups of 32 columns of two blocks, over half `t` of the rows. -/
def groups128 (v w : FVec F S128x128 .f32) : Fin 8 → FVec F S8x128 .f32 :=
  ![group v 0 (by omega), group v 32 (by omega), group v 64 (by omega), group v 96 (by omega),
    group w 0 (by omega), group w 32 (by omega), group w 64 (by omega), group w 96 (by omega)]

/-- The buffers a step works on. -/
structure Mems (sig : RefSig) where
  x : Memref sig .tc .vmem S256x4096 .bf16
  dy : Memref sig .tc .vmem S256x2048 .bf16
  ex : Memref sig .tc .vmem S128x4096 .bf16
  co : Memref sig .tc .vmem S256x4096 .fp8e4m3
  sc : Memref sig .tc .vmem S256x128 .f32
  ct : Memref sig .tc .vmem S4096x256 .fp8e4m3
  st : Memref sig .tc .vmem S4096x128 .f32
  dx : Memref sig .tc .vmem S256x4096 .f32
  row : Memref sig .tc .vmem S2x128x128 .f32
  col : Memref sig .tc .vmem S8x4096 .f32
  slab : Memref sig .tc .vmem S64x72x128 .f32
  acc : Memref sig .tc .vmem S128x4096 .f32

variable (M : Mems sig) (nl2 l2 : F .f32)

/-- One side of a chunk: the 128 columns from `q` on get their gradient `v`, and each group of 32 rows its scale,
    kept with the accumulated scales and, inverted, for the codes. -/
def side (a : Nat) (ha : a + 8 ≤ 128) (n : Nat) (hn : n < 64) (q : Nat) (hq : q + 128 ≤ 4096) (v : FVec F S256x128 .f32) (k : ℙ) : ℙ :=
  st M.dx (rect2 256 4096 256 128 0 q (by omega) hq) (by decide : 0 < S256x128.numel) (shapeCast S256x128 v rfl) <|
  sublane (plane M.slab n hn) (groups256 (absf v)) fun m =>
  st M.acc (rect2 128 4096 8 128 a q ha hq) pos8x128 (shapeCast S8x128 (pow2 l2 m) rfl) <|
  st M.col (rect2 8 4096 8 128 0 q (by omega) hq) pos8x128 (shapeCast S8x128 (inv (pow2 l2 m)) rfl) k

/-- Four rows of row scales: a read of the destination and its overwriting. -/
def stScale (t p : Nat) (ht : t < 2) (hp : p + 4 ≤ 128) (w : FVec F S4x128 .f32) (k : ℙ) : ℙ :=
  st M.row (rect3 2 128 128 1 4 128 t p 0 (by omega) hp (by omega)) (by decide : 0 < S1x4x128.numel) (shapeCast S1x4x128 w (by decide)) k

/-- The row scales of half `t` of the rows, for the 256 columns of a chunk. -/
def rowHalf (c : Nat) (hc : c < 16) (t : Nat) (ht : t < 2) (n : Nat) (hn : n < 64) (vg vu : FVec F S256x128 .f32) (k : ℙ) : ℙ :=
  sublane (plane M.slab n hn)
    (groups128 (half (absf vg) (128 * t) (by omega)) (half (absf vu) (128 * t) (by omega))) fun m =>
  stScale M t (4 * c) ht (by omega)
    (extractStridedSlice S4x128 ![0, 0] (pow2 l2 m) (slices2 (by omega) (by omega))) <|
  stScale M t (64 + 4 * c) ht (by omega)
    (extractStridedSlice S4x128 ![4, 0] (pow2 l2 m) (slices2 (by omega) (by omega))) k

/-- Chunk `c`: columns `128c ..` of either half. -/
def chunk (a : Nat) (ha : a + 8 ≤ 128) (c : Nat) (hc : c < 16) (k : ℙ) : ℙ :=
  ld M.x (rect2 256 4096 256 128 0 (128 * c) (by omega) (by omega)).toLoadRect (by decide : 0 < S256x128.numel) fun xg =>
  ld M.x (rect2 256 4096 256 128 0 (2048 + 128 * c) (by omega) (by omega)).toLoadRect (by decide : 0 < S256x128.numel) fun xu =>
  ld M.dy (rect2 256 2048 256 128 0 (128 * c) (by omega) (by omega)).toLoadRect (by decide : 0 < S256x128.numel) fun y =>
  side M l2 a ha (4 * c) (by omega) (128 * c) (by omega) (dgate nl2 (wide xg) (wide xu) (wide y)) <|
  side M l2 a ha (4 * c + 1) (by omega) (2048 + 128 * c) (by omega) (dup nl2 (wide xg) (wide y)) <|
  rowHalf M l2 c hc 0 (by omega) (4 * c + 2) (by omega) (dgate nl2 (wide xg) (wide xu) (wide y)) (dup nl2 (wide xg) (wide y)) <|
  rowHalf M l2 c hc 1 (by omega) (4 * c + 3) (by omega) (dgate nl2 (wide xg) (wide xu) (wide y)) (dup nl2 (wide xg) (wide y)) k

/-- The row scales of half `t` leave the row buffer, transposed, for the output; their reciprocals are handed on. -/
def rowOut (t : Nat) (ht : t < 2) (k : FVec F S128x128 .bf16 → ℙ) : ℙ :=
  ld M.row (rect3 2 128 128 1 128 128 t 0 0 (by omega) (by omega) (by omega)).toLoadRect (by decide : 0 < S1x128x128.numel) fun (s : Vec F S1x128x128 .f32) =>
  st M.sc (rect2 256 128 128 128 (128 * t) 0 (by omega) (by omega)) (by decide : 0 < S128x128.numel)
    (transpose S128x128 [1, 0] (shapeCast S128x128 s (by decide) : FVec F S128x128 .f32) (by decide)) <|
  k (truncf .bf16 (inv (transpose S128x128 [1, 0] (shapeCast S128x128 s (by decide) : FVec F S128x128 .f32) (by decide))) (by decide))

/-- The product of the reciprocal row scales with a block of the expansion. -/
abbrev dims : DotDims S256x128 S128x256 S256x256 := ⟨[1], [0], [0], [1], [], [], by decide⟩

/-- The codes of 32 rows of a tile under one row of reciprocal scales. -/
def codesT (v : FVec F S256x256 .f32) (p : Nat) (hp : p + 32 ≤ 256) (c : S1x256.Idx → Elt F .f32) : FVec F S32x256 .fp8e4m3 :=
  quant (extractStridedSlice S32x256 ![p, 0] v (slices2 hp (by omega)))
    (broadcastTo S32x256 (shapeCast S1x256 c rfl : FVec F S1x256 .f32) (by decide))

/-- A row of reciprocal scales, 256 columns of it. -/
def ldCol (k : Nat) (hk : k < 8) (q : Nat) (hq : q + 256 ≤ 4096) (f : (S1x256.Idx → Elt F .f32) → ℙ) : ℙ :=
  ld M.col (rect2 8 4096 1 256 k q (by omega) hq).toLoadRect (by decide : 0 < S1x256.numel) f

/-- Tile `j` of the codes: columns `256j ..`. -/
def tile (r : FVec F S256x128 .bf16) (j : Nat) (hj : j < 16)
    (h₁ : (M.co.access (rect2 256 4096 256 256 0 (256 * j) (by omega) (by omega))).Stores Finset.univ)
    (h₂ : (M.ct.access (rect2 4096 256 256 256 (256 * j) 0 (by omega) (by omega))).Stores Finset.univ) (k : ℙ) : ℙ :=
  ld M.ex (rect2 128 4096 128 256 0 (256 * j) (by omega) (by omega)).toLoadRect (by decide : 0 < S128x256.numel) fun e =>
  ld M.dx (rect2 256 4096 256 256 0 (256 * j) (by omega) (by omega)).toLoadRect (by decide : 0 < S256x256.numel) fun v =>
  st8 M.co (rect2 256 4096 256 256 0 (256 * j) (by omega) (by omega)) (by decide : 0 < S256x256.numel) h₁
    (quant v (matmul dims none r (shapeCast S128x256 e rfl : FVec F S128x256 .bf16) (constant S256x256 .f32 0x00000000#32))) <|
  ldCol M 0 (by omega) (256 * j) (by omega) fun c0 => ldCol M 1 (by omega) (256 * j) (by omega) fun c1 =>
  ldCol M 2 (by omega) (256 * j) (by omega) fun c2 => ldCol M 3 (by omega) (256 * j) (by omega) fun c3 =>
  ldCol M 4 (by omega) (256 * j) (by omega) fun c4 => ldCol M 5 (by omega) (256 * j) (by omega) fun c5 =>
  ldCol M 6 (by omega) (256 * j) (by omega) fun c6 => ldCol M 7 (by omega) (256 * j) (by omega) fun c7 =>
  st8 M.ct (rect2 4096 256 256 256 (256 * j) 0 (by omega) (by omega)) (by decide : 0 < S256x256.numel) h₂
    (transpose S256x256 [1, 0] (concatenate S256x256 0
      [⟨S32x256, codesT v 0 (by omega) c0⟩, ⟨S32x256, codesT v 32 (by omega) c1⟩, ⟨S32x256, codesT v 64 (by omega) c2⟩,
        ⟨S32x256, codesT v 96 (by omega) c3⟩, ⟨S32x256, codesT v 128 (by omega) c4⟩, ⟨S32x256, codesT v 160 (by omega) c5⟩,
        ⟨S32x256, codesT v 192 (by omega) c6⟩, ⟨S32x256, codesT v 224 (by omega) c7⟩]
        (by decide : Shape.Concatenates [S32x256, S32x256, S32x256, S32x256, S32x256, S32x256, S32x256, S32x256] S256x256 0)
        : FVec F S256x256 .fp8e4m3) (by decide)) k

/-- Block `c` of the accumulated scales leaves for the output, transposed. -/
def flush (c : Nat) (hc : c < 32) (k : ℙ) : ℙ :=
  ld M.acc (rect2 128 4096 128 128 0 (128 * c) (by omega) (by omega)).toLoadRect (by decide : 0 < S128x128.numel) fun (v : Vec F S128x128 .f32) =>
  st M.st (rect2 4096 128 128 128 (128 * c) 0 (by omega) (by omega)) (by decide : 0 < S128x128.numel)
    (transpose S128x128 [1, 0] (v : FVec F S128x128 .f32) (by decide)) k

/-- The sixteen chunks, from chunk `n` on. -/
def chunks (a : Nat) (ha : a + 8 ≤ 128) : (n : Nat) → n ≤ 16 → ℙ → ℙ
  | 0, _, k => k
  | n + 1, h, k => chunk M nl2 l2 a ha (15 - n) (by omega) (chunks a ha n (by omega) k)

/-- The last `n` of the sixteen tiles of codes. -/
def tiles (r : FVec F S256x128 .bf16)
    (h₁ : ∀ j (hj : j < 16), (M.co.access (rect2 256 4096 256 256 0 (256 * j) (by omega) (by omega))).Stores Finset.univ)
    (h₂ : ∀ j (hj : j < 16), (M.ct.access (rect2 4096 256 256 256 (256 * j) 0 (by omega) (by omega))).Stores Finset.univ) :
    (n : Nat) → n ≤ 16 → ℙ → ℙ
  | 0, _, k => k
  | n + 1, h, k => tile M r (15 - n) (by omega) (h₁ _ (by omega)) (h₂ _ (by omega)) (tiles r h₁ h₂ n (by omega) k)

/-- The last `n` of the 32 blocks of the write-back. -/
def flushes : (n : Nat) → n ≤ 32 → ℙ → ℙ
  | 0, _, k => k
  | n + 1, h, k => flush M (31 - n) (by omega) (flushes n (by omega) k)

/-- The step's body. -/
def body (a : Nat) (ha : a + 8 ≤ 128) (fl : Prop) [Decidable fl]
    (h₁ : ∀ j (hj : j < 16), (M.co.access (rect2 256 4096 256 256 0 (256 * j) (by omega) (by omega))).Stores Finset.univ)
    (h₂ : ∀ j (hj : j < 16), (M.ct.access (rect2 4096 256 256 256 (256 * j) 0 (by omega) (by omega))).Stores Finset.univ) : ℙ :=
  chunks M nl2 l2 a ha 16 (by omega) <|
  rowOut M 0 (by omega) fun r0 => rowOut M 1 (by omega) fun r1 =>
  tiles M (concatenate S256x128 0 [⟨S128x128, r0⟩, ⟨S128x128, r1⟩] (by decide : Shape.Concatenates [S128x128, S128x128] S256x128 0)) h₁ h₂ 16 (by omega) <|
  if fl then flushes M 32 (by omega) (.ret ⟨⟩) else .ret ⟨⟩

end Steps

end Cert.Swiglu
-- ==== Proof.Kernel.BodyEq.lean ====
/-
  THE PRINTED BODY IS THE BODY WRITTEN ONCE: operation by operation, the one pushed through by definition of the other.
-/
module

public import proofs.«01_k».proof.Proof.Gen.Kernel.Frame
public import proofs.«01_k».proof.Proof.Program

@[expose] public section

noncomputable section

namespace Cert.Kernel.Swi

open Idealize.ShloMosaic Idealize.ShloMosaic.TcCoe Idealize.SL.Sem
open Cert.Kernel Cert.Kernel.Facts₀

variable {F : FTy → Type} [FloatOps F]
attribute [local instance] Cert.Kernel.Gen.facts

theorem op_congr {E : Type → Type} {α β : Type} (e : E β) {k k' : β → Prog E α} (h : ∀ x, k x = k' x) :
    Prog.op e k = Prog.op e k' := congrArg _ (funext h)

/-- The constant of the elementwise part: -1/log 2. -/
def nl2 : F .f32 := Scalar.ofBits .f32 0xBFB8AA3B#32

/-- The constant of the scales: log 2. -/
def l2 : F .f32 := Scalar.ofBits .f32 0x3F317218#32

/-- The first of the eight rows a step gives to its accumulated scales. -/
def accRow (i : grid0.Coords) : Nat := k0_off1 i 0

theorem accRow_le (i : grid0.Coords) : accRow i + 8 ≤ 128 := k0_off1_inb i 0

set_option maxRecDepth 16384
set_option maxHeartbeats 4000000

theorem body_eq (i : grid0.Coords) (M : Cert.Swiglu.Mems sig) (h1 : M.x.IsWhole) (h2 : M.dy.IsWhole) (h3 : M.ex.IsWhole)
  (h4 : M.co.IsWhole) (h5 : M.sc.IsWhole) (h6 : M.ct.IsWhole) (h7 : M.st.IsWhole) (h8 : M.dx.IsWhole) (h9 : M.row.IsWhole)
  (h10 : M.col.IsWhole) (h11 : M.slab.IsWhole) (h12 : M.acc.IsWhole) (g1 g2) :
    cc0_dswiglu_cast_transpose (F := F) i M.x h1 M.dy h2 M.ex h3 M.co h4 M.sc h5 M.ct h6 M.st h7 M.dx h8 M.row h9 M.col h10 M.slab h11 M.acc h12
      = Cert.Swiglu.body M nl2 l2 (accRow i) (accRow_le i) (k0_cond1 i = 1#1) g1 g2 := by
  iterate 119 (refine op_congr _ fun _ => ?_)
  as_aux_lemma =>
  iterate 119 (refine op_congr _ fun _ => ?_)
  as_aux_lemma =>
  iterate 119 (refine op_congr _ fun _ => ?_)
  as_aux_lemma =>
  iterate 119 (refine op_congr _ fun _ => ?_)
  as_aux_lemma =>
  iterate 119 (refine op_congr _ fun _ => ?_)
  as_aux_lemma =>
  iterate 119 (refine op_congr _ fun _ => ?_)
  as_aux_lemma =>
  iterate 119 (refine op_congr _ fun _ => ?_)
  as_aux_lemma =>
  iterate 119 (refine op_congr _ fun _ => ?_)
  as_aux_lemma =>
  iterate 119 (refine op_congr _ fun _ => ?_)
  as_aux_lemma =>
  iterate 119 (refine op_congr _ fun _ => ?_)
  as_aux_lemma =>
  iterate 119 (refine op_congr _ fun _ => ?_)
  as_aux_lemma =>
  iterate 119 (refine op_congr _ fun _ => ?_)
  as_aux_lemma =>
  iterate 119 (refine op_congr _ fun _ => ?_)
  as_aux_lemma =>
  iterate 119 (refine op_congr _ fun _ => ?_)
  as_aux_lemma =>
  iterate 119 (refine op_congr _ fun _ => ?_)
  as_aux_lemma =>
  iterate 119 (refine op_congr _ fun _ => ?_)
  as_aux_lemma =>
  iterate 6 (refine op_congr _ fun _ => ?_)
  iterate 56 (refine op_congr _ fun _ => ?_)
  as_aux_lemma =>
  iterate 56 (refine op_congr _ fun _ => ?_)
  as_aux_lemma =>
  iterate 56 (refine op_congr _ fun _ => ?_)
  as_aux_lemma =>
  iterate 56 (refine op_congr _ fun _ => ?_)
  as_aux_lemma =>
  by_cases h : k0_cond1 i = 1#1
  · refine (dif_pos h).trans ((?_ : _ = _).trans (if_pos h).symm)
    iterate 96 (refine op_congr _ fun _ => ?_)
    rfl
  · refine (dif_neg h).trans ((?_ : _ = _).trans (if_neg h).symm)
    rfl

end Cert.Kernel.Swi
-- ==== Proof.Memory.lean ====
/-
  WHAT THE BUFFERS HOLD. The contents of the twelve buffers a grid step works on, as one record of arrays; the predicate
  `Runs`, that a program started on one record ends on a record with a given property; and its two rules, a load
  and a store, for a whole buffer and for one plane of the slab buffer.
-/
module

public import Idealize.ShloMosaic.Rules.Step
public import Idealize.ShloMosaic.Lib.Memref
public import Idealize.ShloMosaic.Lib.Claim
public import Idealize.ShloMosaic.Lib.Ring
public import proofs.«01_k».proof.Proof.Program

@[expose] public section

noncomputable section

namespace Cert.Swiglu

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

open Classical in
/-- The array `X` with `w x` at `φ x` for every `x`. -/
def put {ι κ V : Type} (φ : ι → κ) (w : ι → V) (X : κ → V) : κ → V :=
  fun i => if h : ∃ x, φ x = i then w h.choose else X i

theorem put_at {ι κ V : Type} {φ : ι → κ} (hφ : Function.Injective φ) (w : ι → V) (X : κ → V) (x : ι) :
    put φ w X (φ x) = w x := by
  have h : ∃ y, φ y = φ x := ⟨x, rfl⟩
  simp only [put, dif_pos h]
  exact congrArg w (hφ h.choose_spec)

theorem put_off {ι κ V : Type} {φ : ι → κ} (w : ι → V) (X : κ → V) {i : κ} (h : ¬ ∃ x, φ x = i) :
    put φ w X i = X i := by simp only [put, dif_neg h]

section Views

variable {sig : RefSig} {κ : Kind} {sp : Space} {s s' : Shape} {e : EltTy} {Val : EltTy → Type}

/-- The elements of a slice of a re-indexed slice, in the outer view's coordinates. -/
def inner (r₀ : Rect s) (h : s'.numel = r₀.shape.numel) (y : s'.Idx) : s.Idx := r₀.emb (Shape.reshapeEquiv h y)

theorem inner_injective (r₀ : Rect s) (h : s'.numel = r₀.shape.numel) : Function.Injective (inner r₀ h) :=
  fun _ _ e => (Shape.reshapeEquiv h).injective (r₀.emb.injective e)

theorem read_write_slice (v : View sig κ sp s e) (r : Rect s) (f : v.ty.Contents Val) (w : r.shape.Idx → Val e) :
    v.read Val ((v.slice r).write Val f w Finset.univ) = put r.emb w (v.read Val f) := by
  funext y
  by_cases hy : ∃ x, r.emb x = y
  · obtain ⟨x, rfl⟩ := hy
    rw [put_at r.emb.injective, View.read_slice_write_emb _ _ _ (Finset.mem_univ x)]
  · rw [put_off _ _ hy, View.read_slice_write_of_not_mem]
    intro hm
    obtain ⟨x, -, hx⟩ := Finset.mem_map.mp hm
    exact hy ⟨x, hx⟩

theorem read_write_inner (v : View sig κ sp s e) (r₀ : Rect s) (h : s'.numel = r₀.shape.numel) (r : Rect s')
    (f : v.ty.Contents Val) (w : r.shape.Idx → Val e) :
    v.read Val ((((v.slice r₀).reshape s' h).slice r).write Val f w Finset.univ)
      = put (fun x => inner r₀ h (r.emb x)) w (v.read Val f) := by
  funext y
  by_cases hy : ∃ x, inner r₀ h (r.emb x) = y
  · obtain ⟨x, rfl⟩ := hy
    rw [put_at (φ := fun x => inner r₀ h (r.emb x)) ((inner_injective r₀ h).comp r.emb.injective), View.read_apply,
      show v.emb (inner r₀ h (r.emb x)) = (((v.slice r₀).reshape s' h).slice r).emb x from rfl,
      View.write_emb_of_mem _ _ (Finset.mem_univ x), cast_cast, cast_eq]
  · rw [put_off _ _ hy, View.read_apply, View.read_apply]
    congr 1
    refine View.write_of_not_mem _ _ _ fun hm => hy ?_
    obtain ⟨x, -, hx⟩ := Finset.mem_map.mp hm
    exact ⟨x, v.emb.injective hx⟩

theorem inner_set_subset (v : View sig κ sp s e) (r₀ : Rect s) (h : s'.numel = r₀.shape.numel) :
    ((v.slice r₀).reshape s' h).set ⊆ v.set := by
  rw [View.set_reshape]; exact v.set_slice_subset r₀

end Views

/-- The contents of the step's buffers. -/
structure St (F : FTy → Type) where
  x : S256x4096.Idx → Elt F .bf16
  dy : S256x2048.Idx → Elt F .bf16
  ex : S128x4096.Idx → Elt F .bf16
  co : S256x4096.Idx → Elt F .fp8e4m3
  sc : S256x128.Idx → Elt F .f32
  ct : S4096x256.Idx → Elt F .fp8e4m3
  st : S4096x128.Idx → Elt F .f32
  dx : S256x4096.Idx → Elt F .f32
  row : S2x128x128.Idx → Elt F .f32
  col : S8x4096.Idx → Elt F .f32
  slab : S64x72x128.Idx → Elt F .f32
  acc : S128x4096.Idx → Elt F .f32

section Run

variable {nD : Nat} {τ : Topo} {sig : RefSig} {Λ : Labels} {F : FTy → Type}

local notation "𝕄" => MT nD τ sig Unit (Elt F) ℕ (UR sig nD τ) ℕ

/-- Device `c` holds the twelve buffers at the contents `σ`. -/
def held (c : Dev nD) (M : Mems sig) (σ : St F) : sProp 𝕄 :=
  iprop(owns (c : Thread nD τ) M.x fullShare σ.x ∗ owns (c : Thread nD τ) M.dy fullShare σ.dy
    ∗ owns (c : Thread nD τ) M.ex fullShare σ.ex ∗ owns (c : Thread nD τ) M.co fullShare σ.co
    ∗ owns (c : Thread nD τ) M.sc fullShare σ.sc ∗ owns (c : Thread nD τ) M.ct fullShare σ.ct
    ∗ owns (c : Thread nD τ) M.st fullShare σ.st ∗ owns (c : Thread nD τ) M.dx fullShare σ.dx
    ∗ owns (c : Thread nD τ) M.row fullShare σ.row ∗ owns (c : Thread nD τ) M.col fullShare σ.col
    ∗ owns (c : Thread nD τ) M.slab fullShare σ.slab ∗ owns (c : Thread nD τ) M.acc fullShare σ.acc)

variable (defs : Defs nD τ sig (Elt F) Λ) (c : Dev nD) (E : Set ℕ) (M : Mems sig) (R : St F → Prop)

/-- From the contents `σ`, the program runs to contents with the property `R`. -/
def Runs (p : Prog (TpuEff nD τ sig (Elt F) Λ (Proc.tc : Proc τ)) PUnit) (σ : St F) : Prop :=
  ∀ K : PUnit → sProp 𝕄,
    iprop(held c M σ ∗ (∀ σ', ⌜R σ'⌝ -∗ held c M σ' -∗ K ⟨⟩))
      ⊢ wp frame (wpE (Ix := Unit) (Name := ℕ) (U := UR sig nD τ) (Lvl := ℕ) defs Variants.none (c : Thread nD τ) none) E p K

/-- Buffer `m` is one of the step's: it can be taken out of the twelve at its contents, and put back at any. -/
def IsBuf {s : Shape} {e : EltTy} (m : Memref sig .tc .vmem s e) (get : St F → s.Idx → Elt F e)
    (set : St F → (s.Idx → Elt F e) → St F) : Prop :=
  ∀ σ : St F, set σ (get σ) = σ ∧ ((held c M σ : sProp 𝕄)
    ⊢ iprop(owns (c : Thread nD τ) m fullShare (get σ) ∗ (∀ X, owns (c : Thread nD τ) m fullShare X -∗ held c M (set σ X))))

variable {defs c E M R}

theorem Runs.ret {σ : St F} (h : R σ) : Runs defs c E M R (.ret ⟨⟩) σ := by
  intro K
  iintro ⟨H, Hk⟩
  sl_step
  iapply Hk
  · ipureintro; exact h
  · iexact H

section Rules

variable {s s' : Shape} {e : EltTy} {m : Memref sig .tc .vmem s e} {get : St F → s.Idx → Elt F e}
  {set : St F → (s.Idx → Elt F e) → St F} {σ : St F}

/-- A load of a whole buffer goes on at what the buffer holds there. -/
theorem Runs.load (hm : IsBuf (τ := τ) c M m get set) {r : LoadRect s} {hl : m.view.LoadsAt r}
    {k : (r.shape.Idx → Elt F e) → Prog (TpuEff nD τ sig (Elt F) Λ (Proc.tc : Proc τ)) PUnit}
    (h : Runs defs c E M R (k fun j => get σ (r.idx j)) σ) :
    Runs defs c E M R (.op (.load m r hl) k) σ := by
  intro K
  refine (sep_mono_left (hm σ).2).trans ?_
  unfold owns
  iintro ⟨⟨⟨%f, %hf, H⟩, Hs⟩, Hk⟩
  iapply (wp_load (Γ := .empty) (S := m.view.set) Variants.none (c : Thread nD τ) none E (by
    intro i hi
    obtain ⟨x, -, rfl⟩ := Finset.mem_map.mp hi
    exact Finset.mem_map.mpr ⟨x, Finset.mem_univ _, rfl⟩)) $$ H
  iintro H
  rw [show m.view.readAt (Elt F) r f = fun j => get σ (r.idx j) from by rw [← hf]; rfl]
  iapply (h K)
  isplitl [H Hs]
  · iapply (BI.BIBase.Entails.of_eq (congrArg (held c M) (hm σ).1))
    iapply Hs
    iexists f
    isplitr
    · ipureintro; exact hf
    · iexact H
  · iexact Hk

/-- A store to a rectangle of a whole buffer. -/
theorem Runs.store (hm : IsBuf (τ := τ) c M m get set) {r : Rect s} {w : r.shape.Idx → Elt F e}
    {hx : (m.access r).Stores Finset.univ} {hu}
    {k : PUnit → Prog (TpuEff nD τ sig (Elt F) Λ (Proc.tc : Proc τ)) PUnit}
    (h : Runs defs c E M R (k ⟨⟩) (set σ (put r.emb w (get σ)))) :
    Runs defs c E M R (.op (.store m r w Finset.univ hx hu) k) σ := by
  intro K
  refine (sep_mono_left (hm σ).2).trans ?_
  unfold owns
  iintro ⟨⟨⟨%f, %hf, H⟩, Hs⟩, Hk⟩
  iapply (wp_store (Γ := .empty) (m := m) (r := r) (S := m.view.set) (f := f) Variants.none (c : Thread nD τ) none E (by
    intro i hi
    obtain ⟨x, -, rfl⟩ := Finset.mem_map.mp hi
    exact Finset.mem_map.mpr ⟨r.emb x, Finset.mem_univ _, rfl⟩)) $$ H
  iintro H
  iapply (h K)
  isplitl [H Hs]
  · iapply Hs
    iexists _
    isplitr
    swap; · iexact H
    ipureintro
    rw [← hf]; exact read_write_slice m.view r f w
  · iexact Hk

variable {r₀ : Rect s} {h₀ : ∀ a, r₀.stride a = 1} {hq : r₀.shape.Squeezes s'}

/-- A load of a re-indexed slice of a buffer. -/
theorem Runs.load_inner (hm : IsBuf (τ := τ) c M m get set) {r : LoadRect s'}
    {hl : ((m.slice r₀ h₀).squeeze s' hq).view.LoadsAt r}
    {k : (r.shape.Idx → Elt F e) → Prog (TpuEff nD τ sig (Elt F) Λ (Proc.tc : Proc τ)) PUnit}
    (h : Runs defs c E M R (k fun j => get σ (inner r₀ hq.numel_eq (r.idx j))) σ) :
    Runs defs c E M R (.op (.load ((m.slice r₀ h₀).squeeze s' hq) r hl) k) σ := by
  intro K
  refine (sep_mono_left (hm σ).2).trans ?_
  unfold owns
  iintro ⟨⟨⟨%f, %hf, H⟩, Hs⟩, Hk⟩
  iapply (wp_load (Γ := .empty) (S := m.view.set) (m := (m.slice r₀ h₀).squeeze s' hq) Variants.none (c : Thread nD τ) none E (by
    intro i hi
    obtain ⟨x, -, rfl⟩ := Finset.mem_map.mp hi
    exact Finset.mem_map.mpr ⟨inner r₀ hq.numel_eq x, Finset.mem_univ _, rfl⟩)) $$ H
  iintro H
  rw [show ((m.slice r₀ h₀).squeeze s' hq).view.readAt (Elt F) r f = fun j => get σ (inner r₀ hq.numel_eq (r.idx j)) from by
    rw [← hf]; rfl]
  iapply (h K)
  isplitl [H Hs]
  · iapply (BI.BIBase.Entails.of_eq (congrArg (held c M) (hm σ).1))
    iapply Hs
    iexists f
    isplitr
    · ipureintro; exact hf
    · iexact H
  · iexact Hk

/-- A store to a rectangle of a re-indexed slice of a buffer. -/
theorem Runs.store_inner (hm : IsBuf (τ := τ) c M m get set) {r : Rect s'} {w : r.shape.Idx → Elt F e}
    {hx : (((m.slice r₀ h₀).squeeze s' hq).access r).Stores Finset.univ} {hu}
    {k : PUnit → Prog (TpuEff nD τ sig (Elt F) Λ (Proc.tc : Proc τ)) PUnit}
    (h : Runs defs c E M R (k ⟨⟩) (set σ (put (fun x => inner r₀ hq.numel_eq (r.emb x)) w (get σ)))) :
    Runs defs c E M R (.op (.store ((m.slice r₀ h₀).squeeze s' hq) r w Finset.univ hx hu) k) σ := by
  intro K
  refine (sep_mono_left (hm σ).2).trans ?_
  unfold owns
  iintro ⟨⟨⟨%f, %hf, H⟩, Hs⟩, Hk⟩
  iapply (wp_store (Γ := .empty) (m := (m.slice r₀ h₀).squeeze s' hq) (r := r) (S := (m.view.set : Finset m.view.ty.Idx)) (f := f) Variants.none (c : Thread nD τ) none E (by
    intro i hi
    obtain ⟨x, -, rfl⟩ := Finset.mem_map.mp hi
    exact Finset.mem_map.mpr ⟨inner r₀ hq.numel_eq (r.emb x), Finset.mem_univ _, rfl⟩)) $$ H
  iintro H
  iapply (h K)
  isplitl [H Hs]
  · iapply Hs
    iexists _
    isplitr
    swap; · iexact H
    ipureintro
    rw [← hf]; exact read_write_inner m.view r₀ hq.numel_eq r f w
  · iexact Hk

end Rules

/-! ### The twelve buffers -/

variable (c M)

theorem isBuf_x : IsBuf (F := F) (τ := τ) c M M.x St.x fun σ X => { σ with x := X } := fun σ => ⟨rfl, by
  unfold held; iintro ⟨H1, H2, H3, H4, H5, H6, H7, H8, H9, H10, H11, H12⟩
  isplitl [H1]; · iexact H1
  iintro %X H; iframe⟩

theorem isBuf_dy : IsBuf (F := F) (τ := τ) c M M.dy St.dy fun σ X => { σ with dy := X } := fun σ => ⟨rfl, by
  unfold held; iintro ⟨H1, H2, H3, H4, H5, H6, H7, H8, H9, H10, H11, H12⟩
  isplitl [H2]; · iexact H2
  iintro %X H; iframe⟩

theorem isBuf_ex : IsBuf (F := F) (τ := τ) c M M.ex St.ex fun σ X => { σ with ex := X } := fun σ => ⟨rfl, by
  unfold held; iintro ⟨H1, H2, H3, H4, H5, H6, H7, H8, H9, H10, H11, H12⟩
  isplitl [H3]; · iexact H3
  iintro %X H; iframe⟩

theorem isBuf_co : IsBuf (F := F) (τ := τ) c M M.co St.co fun σ X => { σ with co := X } := fun σ => ⟨rfl, by
  unfold held; iintro ⟨H1, H2, H3, H4, H5, H6, H7, H8, H9, H10, H11, H12⟩
  isplitl [H4]; · iexact H4
  iintro %X H; iframe⟩

theorem isBuf_sc : IsBuf (F := F) (τ := τ) c M M.sc St.sc fun σ X => { σ with sc := X } := fun σ => ⟨rfl, by
  unfold held; iintro ⟨H1, H2, H3, H4, H5, H6, H7, H8, H9, H10, H11, H12⟩
  isplitl [H5]; · iexact H5
  iintro %X H; iframe⟩

theorem isBuf_ct : IsBuf (F := F) (τ := τ) c M M.ct St.ct fun σ X => { σ with ct := X } := fun σ => ⟨rfl, by
  unfold held; iintro ⟨H1, H2, H3, H4, H5, H6, H7, H8, H9, H10, H11, H12⟩
  isplitl [H6]; · iexact H6
  iintro %X H; iframe⟩

theorem isBuf_st : IsBuf (F := F) (τ := τ) c M M.st St.st fun σ X => { σ with st := X } := fun σ => ⟨rfl, by
  unfold held; iintro ⟨H1, H2, H3, H4, H5, H6, H7, H8, H9, H10, H11, H12⟩
  isplitl [H7]; · iexact H7
  iintro %X H; iframe⟩

theorem isBuf_dx : IsBuf (F := F) (τ := τ) c M M.dx St.dx fun σ X => { σ with dx := X } := fun σ => ⟨rfl, by
  unfold held; iintro ⟨H1, H2, H3, H4, H5, H6, H7, H8, H9, H10, H11, H12⟩
  isplitl [H8]; · iexact H8
  iintro %X H; iframe⟩

theorem isBuf_row : IsBuf (F := F) (τ := τ) c M M.row St.row fun σ X => { σ with row := X } := fun σ => ⟨rfl, by
  unfold held; iintro ⟨H1, H2, H3, H4, H5, H6, H7, H8, H9, H10, H11, H12⟩
  isplitl [H9]; · iexact H9
  iintro %X H; iframe⟩

theorem isBuf_col : IsBuf (F := F) (τ := τ) c M M.col St.col fun σ X => { σ with col := X } := fun σ => ⟨rfl, by
  unfold held; iintro ⟨H1, H2, H3, H4, H5, H6, H7, H8, H9, H10, H11, H12⟩
  isplitl [H10]; · iexact H10
  iintro %X H; iframe⟩

theorem isBuf_slab : IsBuf (F := F) (τ := τ) c M M.slab St.slab fun σ X => { σ with slab := X } := fun σ => ⟨rfl, by
  unfold held; iintro ⟨H1, H2, H3, H4, H5, H6, H7, H8, H9, H10, H11, H12⟩
  isplitl [H11]; · iexact H11
  iintro %X H; iframe⟩

theorem isBuf_acc : IsBuf (F := F) (τ := τ) c M M.acc St.acc fun σ X => { σ with acc := X } := fun σ => ⟨rfl, by
  unfold held; iintro ⟨H1, H2, H3, H4, H5, H6, H7, H8, H9, H10, H11, H12⟩
  isplitl [H12]; · iexact H12
  iintro %X H; iframe⟩

end Run

end Cert.Swiglu
-- ==== Proof.Steps.lean ====
/-
  WHAT ONE STRETCH OF THE BODY DOES to the contents of the buffers: the store of a rectangle, the maximum of eight
  vectors by way of a slab, and the two sides and two row halves of a chunk. The slab's contents are never read again, so
  each rule leaves them open.
-/
module

public import Idealize.ShloMosaic.Lib.ValueIdxCore
public import Idealize.ShloMosaic.Lib.ValueLayout
public import Idealize.ShloMosaic.Lib.Pipeline.Value
public import proofs.«01_k».proof.Proof.Memory

@[expose] public section

noncomputable section

namespace Cert.Swiglu

open Idealize.ShloMosaic Idealize.ShloMosaic.TcCoe Idealize.ShloMosaic.ValueIdx
open Idealize.SL Idealize.SL.RA Idealize.SL.Sem

/-! ## Rectangles by coordinates -/

theorem emb_rect2 {h w a b p q : Nat} (h₁ : p + a ≤ h) (h₂ : q + b ≤ w) (r : Fin a) (c : Fin b) :
    (rect2 h w a b p q h₁ h₂).emb (ix2 r c) = ix2 ⟨p + r.val, by omega⟩ ⟨q + c.val, by omega⟩ := by
  funext x
  refine Fin.ext ((Rect.emb_apply ..).trans ?_)
  match x with
  | ⟨0, _⟩ => change p + 1 * r.val = _; rw [Nat.one_mul]
  | ⟨1, _⟩ => change q + 1 * c.val = _; rw [Nat.one_mul]

theorem emb_rect3 {l h w z a b n p q : Nat} (h₀ : n + z ≤ l) (h₁ : p + a ≤ h) (h₂ : q + b ≤ w) (m : Fin z) (r : Fin a) (c : Fin b) :
    (rect3 l h w z a b n p q h₀ h₁ h₂).emb (ix3 m r c) = ix3 ⟨n + m.val, by omega⟩ ⟨p + r.val, by omega⟩ ⟨q + c.val, by omega⟩ := by
  funext x
  refine Fin.ext ((Rect.emb_apply ..).trans ?_)
  match x with
  | ⟨0, _⟩ => change n + 1 * m.val = _; rw [Nat.one_mul]
  | ⟨1, _⟩ => change p + 1 * r.val = _; rw [Nat.one_mul]
  | ⟨2, _⟩ => change q + 1 * c.val = _; rw [Nat.one_mul]

theorem emb_strided {s : Nat} (hs : s < 8) (r : Fin 8) (c : Fin 128) :
    (strided s hs).emb (ix2 r c) = ix2 ⟨s + 9 * r.val, by omega⟩ c := by
  funext x
  refine Fin.ext ((Rect.emb_apply ..).trans ?_)
  match x with
  | ⟨0, _⟩ => rfl
  | ⟨1, _⟩ => change 0 + 1 * c.val = _; rw [Nat.one_mul, Nat.zero_add]

section Put

variable {V : Type}

/-- A rectangle's new contents, inside it. -/
theorem put_rect2_in {h w a b p q : Nat} {h₁ : p + a ≤ h} {h₂ : q + b ≤ w} (f : (⟨2, ![a, b]⟩ : Shape).Idx → V)
    (X : (⟨2, ![h, w]⟩ : Shape).Idx → V) {r : Fin h} {c : Fin w} (r' : Fin a) (c' : Fin b) (hr : r.val = p + r'.val) (hc : c.val = q + c'.val) :
    put (rect2 h w a b p q h₁ h₂).emb f X (ix2 r c) = f (ix2 r' c') := by
  have : (ix2 r c : (⟨2, ![h, w]⟩ : Shape).Idx) = (rect2 h w a b p q h₁ h₂).emb (ix2 r' c') := by
    rw [emb_rect2]; congr 1 <;> exact Fin.ext ‹_›
  rw [this, put_at (rect2 h w a b p q h₁ h₂).emb.injective]

/-- Outside a rectangle nothing changes. -/
theorem put_rect2_out {h w a b p q : Nat} {h₁ : p + a ≤ h} {h₂ : q + b ≤ w} (f : (⟨2, ![a, b]⟩ : Shape).Idx → V)
    (X : (⟨2, ![h, w]⟩ : Shape).Idx → V) {r : Fin h} {c : Fin w}
    (hn : r.val < p ∨ p + a ≤ r.val ∨ c.val < q ∨ q + b ≤ c.val) :
    put (rect2 h w a b p q h₁ h₂).emb f X (ix2 r c) = X (ix2 r c) := by
  refine put_off _ _ ?_
  rintro ⟨x, hx⟩
  have e0 := (Rect.emb_apply _ x 0).symm.trans (congrArg Fin.val (congrFun hx 0))
  have e1 := (Rect.emb_apply _ x 1).symm.trans (congrArg Fin.val (congrFun hx 1))
  have h0 : (x 0).val < a := (x 0).isLt
  have h1 : (x 1).val < b := (x 1).isLt
  change p + 1 * (x 0).val = r.val at e0
  change q + 1 * (x 1).val = c.val at e1
  omega

theorem put_rect3_in {l h w z a b n p q : Nat} {h₀ : n + z ≤ l} {h₁ : p + a ≤ h} {h₂ : q + b ≤ w}
    (f : (⟨3, ![z, a, b]⟩ : Shape).Idx → V)
    (X : (⟨3, ![l, h, w]⟩ : Shape).Idx → V) {m : Fin l} {r : Fin h} {c : Fin w} (m' : Fin z) (r' : Fin a) (c' : Fin b)
    (hm : m.val = n + m'.val) (hr : r.val = p + r'.val) (hc : c.val = q + c'.val) :
    put (rect3 l h w z a b n p q h₀ h₁ h₂).emb f X (ix3 m r c) = f (ix3 m' r' c') := by
  have : (ix3 m r c : (⟨3, ![l, h, w]⟩ : Shape).Idx) = (rect3 l h w z a b n p q h₀ h₁ h₂).emb (ix3 m' r' c') := by
    rw [emb_rect3]; congr 1 <;> exact Fin.ext ‹_›
  rw [this, put_at (rect3 l h w z a b n p q h₀ h₁ h₂).emb.injective]

theorem put_rect3_out {l h w z a b n p q : Nat} {h₀ : n + z ≤ l} {h₁ : p + a ≤ h} {h₂ : q + b ≤ w}
    (f : (⟨3, ![z, a, b]⟩ : Shape).Idx → V)
    (X : (⟨3, ![l, h, w]⟩ : Shape).Idx → V) {m : Fin l} {r : Fin h} {c : Fin w}
    (hn : m.val < n ∨ n + z ≤ m.val ∨ r.val < p ∨ p + a ≤ r.val) :
    put (rect3 l h w z a b n p q h₀ h₁ h₂).emb f X (ix3 m r c) = X (ix3 m r c) := by
  refine put_off _ _ ?_
  rintro ⟨x, hx⟩
  have e0 := (Rect.emb_apply _ x 0).symm.trans (congrArg Fin.val (congrFun hx 0))
  have e1 := (Rect.emb_apply _ x 1).symm.trans (congrArg Fin.val (congrFun hx 1))
  have h0 : (x 0).val < z := (x 0).isLt
  have h1 : (x 1).val < a := (x 1).isLt
  change n + 1 * (x 0).val = m.val at e0
  change p + 1 * (x 1).val = r.val at e1
  omega

/-- The rows a strided store reaches, and those it does not. -/
theorem put_strided {s : Nat} (hs : s < 8) (f : S8x128.Idx → V) (X : S72x128.Idx → V) (t r : Fin 8) (c : Fin 128)
    (hb : 9 * t.val + r.val < 72) :
    put (strided s hs).emb f X (ix2 ⟨9 * t.val + r.val, hb⟩ c)
      = if s = r.val then f (ix2 t c) else X (ix2 ⟨9 * t.val + r.val, hb⟩ c) := by
  split
  · next e =>
    have : (ix2 ⟨9 * t.val + r.val, hb⟩ c : S72x128.Idx) = (strided s hs).emb (ix2 t c) := by
      rw [emb_strided]; congr 1; exact Fin.ext (by simp only [e]; omega)
    rw [this, put_at (strided s hs).emb.injective]
  · next e =>
    refine put_off _ _ ?_
    rintro ⟨x, hx⟩
    have e0 := (Rect.emb_apply _ x 0).symm.trans (congrArg Fin.val (congrFun hx 0))
    have h0 : (x 0).val < 8 := (x 0).isLt
    change s + 9 * (x 0).val = 9 * t.val + r.val at e0
    omega

/-- What a write through an injective map leaves, seen through the map. -/
theorem put_comp {ι κ μ : Type} {φ : κ → μ} (hφ : Function.Injective φ) {e : ι → κ} (he : Function.Injective e) (f : ι → V) (X : μ → V) :
    (fun y => put (fun x => φ (e x)) f X (φ y)) = put e f (fun y => X (φ y)) := by
  funext y
  by_cases hy : ∃ x, e x = y
  · obtain ⟨x, rfl⟩ := hy
    exact (put_at (hφ.comp he) f X x).trans (put_at he f _ x).symm
  · rw [put_off _ _ hy, put_off]
    rintro ⟨x, hx⟩
    exact hy ⟨x, hφ hx⟩

end Put

/-! ## Rules -/

section Rules

variable {nD : Nat} {τ : Topo} {sig : RefSig} {Λ : Labels} {F : FTy → Type} [FloatOps F]

local notation "ℙ" => Prog (TpuEff nD τ sig (Elt F) Λ (Proc.tc : Proc τ)) PUnit

variable {defs : Defs nD τ sig (Elt F) Λ} {c : Dev nD} {E : Set ℕ} {M : Mems sig} {R : St F → Prop} {σ : St F}

theorem runs_ld {s : Shape} {e : EltTy} {m : Memref sig .tc .vmem s e} {get : St F → s.Idx → Elt F e}
    {set : St F → (s.Idx → Elt F e) → St F} (hm : IsBuf (τ := τ) c M m get set) {r : LoadRect s} {h₀ : 0 < r.shape.numel}
    {k : (r.shape.Idx → Elt F e) → ℙ} (h : Runs defs c E M R (k fun j => get σ (r.idx j)) σ) :
    Runs defs c E M R (ld m r h₀ k) σ := Runs.load hm h

theorem runs_st {s : Shape} {m : Memref sig .tc .vmem s .f32} {get : St F → s.Idx → Elt F .f32}
    {set : St F → (s.Idx → Elt F .f32) → St F} (hm : IsBuf (τ := τ) c M m get set) {r : Rect s} {h₀ : 0 < r.shape.numel}
    {w : r.shape.Idx → Elt F .f32} {k : ℙ} (h : Runs defs c E M R k (set σ (put r.emb w (get σ)))) :
    Runs defs c E M R (st m r h₀ w k) σ := Runs.load hm (Runs.store hm h)

theorem runs_st8 {s : Shape} {m : Memref sig .tc .vmem s .fp8e4m3} {get : St F → s.Idx → Elt F .fp8e4m3}
    {set : St F → (s.Idx → Elt F .fp8e4m3) → St F} (hm : IsBuf (τ := τ) c M m get set) {r : Rect s} {h₀ : 0 < r.shape.numel}
    {hx : (m.access r).Stores Finset.univ} {w : r.shape.Idx → Elt F .fp8e4m3} {k : ℙ}
    (h : Runs defs c E M R k (set σ (put r.emb w (get σ)))) :
    Runs defs c E M R (st8 m r h₀ hx w k) σ := Runs.load hm (Runs.store hm h)

/-! ### The maximum of eight vectors -/

/-- Row `r` of the eight rows read at once: row `t` of vector `r`. -/
def sel (p : Fin 8 → FVec F S8x128 .f32) (t : Fin 8) : FVec F S8x128 .f32 := fun j => p (j 0) (ix2 t (j 1))

/-- Row `r` is the maximum of the eight rows of vector `r`. -/
def smax (p : Fin 8 → FVec F S8x128 .f32) : FVec F S8x128 .f32 :=
  maximumf (maximumf (maximumf (maximumf (maximumf (maximumf (maximumf (sel p 0) (sel p 1)) (sel p 2)) (sel p 3)) (sel p 4)) (sel p 5)) (sel p 6)) (sel p 7)

/-- Plane `n` of the slab buffer's contents. -/
def planeOf (n : Nat) (hn : n < 64) (y : S72x128.Idx) : S64x72x128.Idx :=
  inner (rect3 64 72 128 1 72 128 n 0 0 (by omega) (by omega) (by omega)) (by decide : S1x72x128.Squeezes S72x128).numel_eq y

theorem planeOf_injective (n : Nat) (hn : n < 64) : Function.Injective (planeOf n hn) := inner_injective _ _

/-- The plane after its eight strided stores. -/
def woven (p : Fin 8 → FVec F S8x128 .f32) (X : S72x128.Idx → F .f32) : S72x128.Idx → F .f32 :=
  put (strided 7 (by omega)).emb (p 7) <| put (strided 6 (by omega)).emb (p 6) <| put (strided 5 (by omega)).emb (p 5) <|
  put (strided 4 (by omega)).emb (p 4) <| put (strided 3 (by omega)).emb (p 3) <| put (strided 2 (by omega)).emb (p 2) <|
  put (strided 1 (by omega)).emb (p 1) <| put (strided 0 (by omega)).emb (p 0) X

theorem woven_apply (p : Fin 8 → FVec F S8x128 .f32) (X : S72x128.Idx → F .f32) (t r : Fin 8) (c : Fin 128)
    (hb : 9 * t.val + r.val < 72) : woven p X (ix2 ⟨9 * t.val + r.val, hb⟩ c) = p r (ix2 t c) := by
  unfold woven
  have step : ∀ (s : Nat) (hs : s < 8) (Y : S72x128.Idx → F .f32) (v : F .f32),
      (s ≠ r.val → Y (ix2 ⟨9 * t.val + r.val, hb⟩ c) = v) → (s = r.val → p ⟨s, hs⟩ (ix2 t c) = v) →
      put (strided s hs).emb (p ⟨s, hs⟩) Y (ix2 ⟨9 * t.val + r.val, hb⟩ c) = v := by
    intro s hs Y v h₁ h₂
    refine (put_strided hs _ _ t r c hb).trans ?_
    split
    · next e => exact h₂ e
    · next e => exact h₁ e
  have hit : ∀ (s : Nat) (hs : s < 8), s = r.val → p ⟨s, hs⟩ (ix2 t c) = p r (ix2 t c) :=
    fun s hs e => congrArg (fun r => p r (ix2 t c)) (Fin.ext e)
  refine step 7 _ _ _ (fun n₇ => ?_) (hit 7 _)
  refine step 6 _ _ _ (fun n₆ => ?_) (hit 6 _)
  refine step 5 _ _ _ (fun n₅ => ?_) (hit 5 _)
  refine step 4 _ _ _ (fun n₄ => ?_) (hit 4 _)
  refine step 3 _ _ _ (fun n₃ => ?_) (hit 3 _)
  refine step 2 _ _ _ (fun n₂ => ?_) (hit 2 _)
  refine step 1 _ _ _ (fun n₁ => ?_) (hit 1 _)
  refine step 0 _ _ _ (fun n₀ => ?_) (hit 0 _)
  omega

theorem runs_stRow {n : Nat} {hn : n < 64} {s : Nat} {hs : s < 8} {w : FVec F S8x128 .f32} {k : ℙ} {X : S72x128.Idx → F .f32}
    (hX : (fun y => σ.slab (planeOf n hn y)) = X)
    (h : ∀ S, (fun y => S (planeOf n hn y)) = put (strided s hs).emb w X → Runs defs c E M R k { σ with slab := S }) :
    Runs defs c E M R (stRow (plane M.slab n hn) s hs w k) σ :=
  Runs.load_inner (isBuf_slab c M) (Runs.store_inner (isBuf_slab c M)
    (h _ (by rw [shapeCast_self, ← hX]; exact put_comp (planeOf_injective n hn) (strided s hs).emb.injective _ _)))

theorem runs_ldRow {n : Nat} {hn : n < 64} {t : Fin 8} {p : Nat} {hp : p + 8 ≤ 72} {k : FVec F S8x128 .f32 → ℙ} {v : Fin 8 → FVec F S8x128 .f32}
    {X : S72x128.Idx → F .f32}
    (hX : (fun y => σ.slab (planeOf n hn y)) = woven v X) (ht : p = 9 * t.val)
    (h : Runs defs c E M R (k (sel v t)) σ) :
    Runs defs c E M R (ldRow (plane M.slab n hn) p hp k) σ := by
  refine Runs.load_inner (isBuf_slab c M) ?_
  refine cast (congrArg (fun v => Runs defs c E M R (k v) σ) ?_) h
  funext j
  subst ht
  refine Eq.trans ?_ (congrFun hX ((rect2 72 128 8 128 (9 * t.val) 0 hp (by omega)).emb j)).symm
  obtain ⟨r, l, rfl⟩ : ∃ (r : Fin 8) (l : Fin 128), j = ix2 r l := ⟨j 0, j 1, eq_ix2 j⟩
  rw [emb_rect2]
  refine (woven_apply v X t r l (by omega)).symm.trans (congrArg (woven v X) ?_)
  congr 1; exact Fin.ext (Nat.zero_add _).symm

theorem runs_sublane {n : Nat} {hn : n < 64} {p : Fin 8 → FVec F S8x128 .f32} {k : FVec F S8x128 .f32 → ℙ}
    (h : ∀ S, Runs defs c E M R (k (smax p)) { σ with slab := S }) :
    Runs defs c E M R (sublane (plane M.slab n hn) p k) σ := by
  unfold sublane
  refine runs_stRow rfl fun S₀ h₀ => ?_
  refine runs_stRow h₀ fun S₁ h₁ => ?_
  refine runs_stRow h₁ fun S₂ h₂ => ?_
  refine runs_stRow h₂ fun S₃ h₃ => ?_
  refine runs_stRow h₃ fun S₄ h₄ => ?_
  refine runs_stRow h₄ fun S₅ h₅ => ?_
  refine runs_stRow h₅ fun S₆ h₆ => ?_
  refine runs_stRow h₆ fun S₇ h₇ => ?_
  refine runs_ldRow (v := p) (t := 0) h₇ rfl ?_
  refine runs_ldRow (v := p) (t := 1) h₇ rfl ?_
  refine runs_ldRow (v := p) (t := 2) h₇ rfl ?_
  refine runs_ldRow (v := p) (t := 3) h₇ rfl ?_
  refine runs_ldRow (v := p) (t := 4) h₇ rfl ?_
  refine runs_ldRow (v := p) (t := 5) h₇ rfl ?_
  refine runs_ldRow (v := p) (t := 6) h₇ rfl ?_
  refine runs_ldRow (v := p) (t := 7) h₇ rfl ?_
  exact h S₇

/-! ### The parts of a chunk -/

variable {l2 : F .f32}

theorem runs_side {a : Nat} {ha : a + 8 ≤ 128} {n : Nat} {hn : n < 64} {q : Nat} {hq : q + 128 ≤ 4096} {v : FVec F S256x128 .f32} {k : ℙ}
    (h : ∀ S, Runs defs c E M R k { σ with
      dx := put (rect2 256 4096 256 128 0 q (by omega) hq).emb v σ.dx
      slab := S
      acc := put (rect2 128 4096 8 128 a q ha hq).emb (pow2 l2 (smax (groups256 (absf v)))) σ.acc
      col := put (rect2 8 4096 8 128 0 q (by omega) hq).emb (inv (pow2 l2 (smax (groups256 (absf v))))) σ.col }) :
    Runs defs c E M R (side M l2 a ha n hn q hq v k) σ := by
  unfold side
  refine runs_st (isBuf_dx c M) (runs_sublane fun S => runs_st (isBuf_acc c M) (runs_st (isBuf_col c M) ?_))
  simp only [shapeCast_self]
  exact h S

/-- The row scales of half `t` of a chunk. -/
def rowScales (l2 : F .f32) (t : Nat) (ht : t < 2) (vg vu : FVec F S256x128 .f32) : FVec F S8x128 .f32 :=
  pow2 l2 (smax (groups128 (half (absf vg) (128 * t) (by omega)) (half (absf vu) (128 * t) (by omega))))

/-- Four rows of row scales put in their place. -/
def putScale (t p : Nat) (ht : t < 2) (hp : p + 4 ≤ 128) (w : FVec F S4x128 .f32) (X : S2x128x128.Idx → F .f32) :
    S2x128x128.Idx → F .f32 :=
  put (rect3 2 128 128 1 4 128 t p 0 (by omega) hp (by omega)).emb (shapeCast S1x4x128 w (by decide)) X

theorem runs_rowHalf {cc : Nat} {hc : cc < 16} {t : Nat} {ht : t < 2} {n : Nat} {hn : n < 64} {vg vu : FVec F S256x128 .f32} {k : ℙ}
    (h : ∀ S, Runs defs c E M R k { σ with
      slab := S
      row := putScale t (64 + 4 * cc) ht (by omega)
          (extractStridedSlice S4x128 ![4, 0] (rowScales l2 t ht vg vu) (slices2 (by omega) (by omega)))
        (putScale t (4 * cc) ht (by omega)
          (extractStridedSlice S4x128 ![0, 0] (rowScales l2 t ht vg vu) (slices2 (by omega) (by omega))) σ.row) }) :
    Runs defs c E M R (rowHalf M l2 cc hc t ht n hn vg vu k) σ := by
  unfold rowHalf stScale
  exact runs_sublane fun S => runs_st (isBuf_row c M) (runs_st (isBuf_row c M) (h S))

end Rules

end Cert.Swiglu
-- ==== Proof.Values.lean ====
/-
  WHAT ONE BLOCK OF 256 ROWS COMPUTES, as arrays: the gradient `DX` of the block's inputs, the largest magnitude of each
  32 of its rows and of each 32 of its columns, the scales and codes made of them. And what the stretches of a chunk
  compute, read off these arrays.
-/
module

public import proofs.«01_k».proof.Proof.Steps

@[expose] public section

noncomputable section

namespace Cert.Swiglu

open Idealize.ShloMosaic Idealize.ShloMosaic.TcCoe Idealize.ShloMosaic.ValueIdx
open Idealize.SL Idealize.SL.RA Idealize.SL.Sem

section Values

variable {F : FTy → Type} [FloatOps F] (nl2 l2 : F .f32)

/-- The larger of two numbers. -/
def mx (a b : F .f32) : F .f32 := FloatOps.maximumf a b

/-- The largest of 32 numbers, in the order the kernel takes them: eight maxima of four, eight apart. -/
def fold32 (f : Fin 32 → F .f32) : F .f32 :=
  let m (t : Fin 8) : F .f32 := mx (mx (mx (f ⟨t.val, by omega⟩) (f ⟨8 + t.val, by omega⟩)) (f ⟨16 + t.val, by omega⟩)) (f ⟨24 + t.val, by omega⟩)
  mx (mx (mx (mx (mx (mx (mx (m 0) (m 1)) (m 2)) (m 3)) (m 4)) (m 5)) (m 6)) (m 7)

/-- The left half of the widened inputs. -/
def gOf (X : S256x4096.Idx → Elt F .bf16) : FVec F S256x2048 .f32 :=
  extf .f32 (fun i => X (ix2 (i 0) ⟨(i 1).val, (by have h : (i 1).val < 2048 := (i 1).isLt; omega)⟩) : FVec F S256x2048 .bf16) (by decide)

/-- The right half. -/
def uOf (X : S256x4096.Idx → Elt F .bf16) : FVec F S256x2048 .f32 :=
  extf .f32 (fun i => X (ix2 (i 0) ⟨2048 + (i 1).val, (by have h : (i 1).val < 2048 := (i 1).isLt; omega)⟩) : FVec F S256x2048 .bf16) (by decide)

/-- The incoming gradient, widened. -/
def yOf (Y : S256x2048.Idx → Elt F .bf16) : FVec F S256x2048 .f32 := extf .f32 (Y : FVec F S256x2048 .bf16) (by decide)

/-- The gradient of a block. -/
def DX (X : S256x4096.Idx → Elt F .bf16) (Y : S256x2048.Idx → Elt F .bf16) : FVec F S256x4096 .f32 := fun i =>
  if h : (i 1).val < 2048 then dgate nl2 (gOf X) (uOf X) (yOf Y) (ix2 (i 0) ⟨(i 1).val, h⟩)
  else dup nl2 (gOf X) (yOf Y) (ix2 (i 0) ⟨(i 1).val - 2048, (by have h : (i 1).val < 4096 := (i 1).isLt; omega)⟩)

/-- The largest magnitude of rows `32q ..` of each column. -/
def CM (D : FVec F S256x4096 .f32) : FVec F S8x4096 .f32 := fun i =>
  fold32 fun s => absf D (ix2 ⟨32 * (i 0).val + s.val, (by have h : (i 0).val < 8 := (i 0).isLt; omega)⟩ (i 1))

/-- The largest magnitude of columns `32g ..` of each row. -/
def RM (D : FVec F S256x4096 .f32) : FVec F S256x128 .f32 := fun i =>
  fold32 fun s => absf D (ix2 (i 0) ⟨32 * (i 1).val + s.val, (by have h : (i 1).val < 128 := (i 1).isLt; omega)⟩)

/-- The reciprocal row scales, rounded. -/
def IR (D : FVec F S256x4096 .f32) : FVec F S256x128 .bf16 := truncf .bf16 (inv (pow2 l2 (RM D))) (by decide)

/-- 256 columns of an array. -/
def cols {h : Nat} {α : Type} (j : Nat) (hj : j < 16) (A : (⟨2, ![h, 4096]⟩ : Shape).Idx → α) : (⟨2, ![h, 256]⟩ : Shape).Idx → α :=
  fun i => A (ix2 (i 0) ⟨256 * j + (i 1).val, (by have h : (i 1).val < 256 := (i 1).isLt; omega)⟩)

/-- Tile `j` of the codes. -/
def tileCo (D : FVec F S256x4096 .f32) (ex : FVec F S128x4096 .bf16) (j : Nat) (hj : j < 16) : FVec F S256x256 .fp8e4m3 :=
  quant (cols j hj D) (matmul dims none (IR l2 D) (cols j hj ex : FVec F S128x256 .bf16) (constant S256x256 .f32 0x00000000#32))

/-- The codes of a block. -/
def CO (D : FVec F S256x4096 .f32) (ex : FVec F S128x4096 .bf16) : FVec F S256x4096 .fp8e4m3 := fun i =>
  tileCo l2 D ex ((i 1).val / 256) (by have h : (i 1).val < 4096 := (i 1).isLt; omega) (ix2 (i 0) ⟨(i 1).val % 256, by omega⟩)

/-- The codes of the transposed block. -/
def CT (D : FVec F S256x4096 .f32) : FVec F S4096x256 .fp8e4m3 := fun i =>
  quant D (fun k => inv (pow2 l2 (CM D)) (ix2 ⟨(k 0).val / 32, (by have h : (k 0).val < 256 := (k 0).isLt; omega)⟩ (k 1))) (ix2 (i 1) (i 0))

/-! ### The stretches of a chunk -/

variable {l2}

theorem pow2_congr {s s' : Shape} {m : FVec F s .f32} {m' : FVec F s' .f32} {i : s.Idx} {j : s'.Idx} (h : m i = m' j) :
    pow2 l2 m i = pow2 l2 m' j := by
  have e : ∀ (s : Shape) (m : FVec F s .f32) (i : s.Idx), pow2 l2 m i = pow2 l2 (s := S8x128) (fun _ => m i) (ix2 0 0) := fun _ _ _ => rfl
  rw [e s, e s', h]

theorem inv_congr {s s' : Shape} {m : FVec F s .f32} {m' : FVec F s' .f32} {i : s.Idx} {j : s'.Idx} (h : m i = m' j) :
    inv m i = inv m' j := by
  have e : ∀ (s : Shape) (m : FVec F s .f32) (i : s.Idx), inv m i = inv (s := S8x128) (fun _ => m i) (ix2 0 0) := fun _ _ _ => rfl
  rw [e s, e s', h]

theorem absf_congr {s s' : Shape} {m : FVec F s .f32} {m' : FVec F s' .f32} {i : s.Idx} {j : s'.Idx} (h : m i = m' j) :
    absf m i = absf m' j := by
  have e : ∀ (s : Shape) (m : FVec F s .f32) (i : s.Idx), absf m i = absf (s := S8x128) (fun _ => m i) (ix2 0 0) := fun _ _ _ => rfl
  rw [e s, e s', h]

theorem quant_congr {s s' : Shape} {v r : FVec F s .f32} {v' r' : FVec F s' .f32} {i : s.Idx} {j : s'.Idx} (h : v i = v' j) (h' : r i = r' j) :
    quant v r i = quant v' r' j := by
  have e : ∀ (s : Shape) (v r : FVec F s .f32) (i : s.Idx), quant v r i = quant (s := S8x128) (fun _ => v i) (fun _ => r i) (ix2 0 0) := fun _ _ _ _ => rfl
  rw [e s, e s', h, h']

theorem fold32_congr {f g : Fin 32 → F .f32} (h : ∀ s, f s = g s) : fold32 f = fold32 g := congrArg fold32 (funext h)

/-- `v` holds the 128 columns of `D` from column `q` on. -/
def Blk (D : FVec F S256x4096 .f32) (q : Nat) (hq : q + 128 ≤ 4096) (v : FVec F S256x128 .f32) : Prop :=
  ∀ (r : Fin 256) (l : Fin 128), v (ix2 r l) = D (ix2 r ⟨q + l.val, by omega⟩)

theorem rows8_apply {h : Nat} (v : FVec F ⟨2, ![h, 128]⟩ .f32) (p : Nat) (hp : p + 8 ≤ h) (r : Fin 8) (l : Fin 128) :
    rows8 v p hp (ix2 r l) = v (ix2 ⟨p + r.val, by omega⟩ l) := by
  unfold rows8
  refine extractStridedSlice_apply _ _ _ _ _ fun a => ?_
  match a with
  | ⟨0, _⟩ => rfl
  | ⟨1, _⟩ => exact (Nat.zero_add _).symm

theorem group_apply {h : Nat} (v : FVec F ⟨2, ![h, 128]⟩ .f32) (p : Nat) (hp : p + 32 ≤ h) (r : Fin 8) (l : Fin 128) :
    group v p hp (ix2 r l) = mx (mx (mx (v (ix2 ⟨p + r.val, by omega⟩ l)) (v (ix2 ⟨p + 8 + r.val, by omega⟩ l)))
      (v (ix2 ⟨p + 16 + r.val, by omega⟩ l))) (v (ix2 ⟨p + 24 + r.val, by omega⟩ l)) := by
  rw [← rows8_apply v p (by omega), ← rows8_apply v (p + 8) (by omega), ← rows8_apply v (p + 16) (by omega), ← rows8_apply v (p + 24) (by omega)]
  rfl

/-- The maximum of eight vectors, by its rows. -/
theorem smax_apply (p : Fin 8 → FVec F S8x128 .f32) (f : Fin 32 → F .f32) (r : Fin 8) (l : Fin 128)
    (h : ∀ t : Fin 8, p r (ix2 t l) = mx (mx (mx (f ⟨t.val, by omega⟩) (f ⟨8 + t.val, by omega⟩)) (f ⟨16 + t.val, by omega⟩)) (f ⟨24 + t.val, by omega⟩)) :
    smax p (ix2 r l) = fold32 f := by
  unfold fold32
  simp only [← h]
  rfl

theorem groups256_eq (v : FVec F S256x128 .f32) (r : Fin 8) : groups256 v r = group v (32 * r.val) (by omega) := by
  match r with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

theorem groups128_lo (v w : FVec F S128x128 .f32) (r : Fin 8) (h : r.val < 4) : groups128 v w r = group v (32 * r.val) (by omega) := by
  match r with
  | ⟨0, _⟩ => rfl
  | ⟨1, _⟩ => rfl
  | ⟨2, _⟩ => rfl
  | ⟨3, _⟩ => rfl
  | ⟨n + 4, _⟩ => exact absurd h (by simp)

theorem groups128_hi (v w : FVec F S128x128 .f32) (r : Fin 4) : groups128 v w ⟨4 + r.val, by omega⟩ = group w (32 * r.val) (by omega) := by
  match r with
  | ⟨0, _⟩ => rfl
  | ⟨1, _⟩ => rfl
  | ⟨2, _⟩ => rfl
  | ⟨3, _⟩ => rfl

theorem smax_groups256 {D : FVec F S256x4096 .f32} {q : Nat} {hq : q + 128 ≤ 4096} {v : FVec F S256x128 .f32} (hv : Blk D q hq v)
    (r : Fin 8) (l : Fin 128) : smax (groups256 (absf v)) (ix2 r l) = CM D (ix2 r ⟨q + l.val, by omega⟩) := by
  refine smax_apply _ _ _ _ fun t => ?_
  rw [groups256_eq, group_apply]
  simp only [absf_congr (hv _ _), Nat.add_assoc]

theorem half_apply (v : FVec F S256x128 .f32) (p : Nat) (hp : p + 128 ≤ 256) (a b : Fin 128) :
    half v p hp (ix2 a b) = v (ix2 ⟨p + b.val, by omega⟩ a) := by
  unfold half
  rw [transpose_ix2_apply]
  refine extractStridedSlice_apply _ _ _ _ _ fun x => ?_
  match x with
  | ⟨0, _⟩ => rfl
  | ⟨1, _⟩ => exact (Nat.zero_add _).symm

theorem group_half {D : FVec F S256x4096 .f32} {q : Nat} {hq : q + 128 ≤ 4096} {v : FVec F S256x128 .f32} (hv : Blk D q hq v)
    (p : Nat) (hp : p + 128 ≤ 256) (r : Fin 4) (t : Fin 8) (b : Fin 128) (f : Fin 32 → F .f32)
    (hf : ∀ s, f s = absf D (ix2 ⟨p + b.val, by omega⟩ ⟨q + 32 * r.val + s.val, by omega⟩)) :
    group (half (absf v) p hp) (32 * r.val) (by omega) (ix2 t b)
      = mx (mx (mx (f ⟨t.val, by omega⟩) (f ⟨8 + t.val, by omega⟩)) (f ⟨16 + t.val, by omega⟩)) (f ⟨24 + t.val, by omega⟩) := by
  rw [group_apply]
  simp only [half_apply, absf_congr (hv _ _), hf, Nat.add_assoc]

theorem rowScales_lo {D : FVec F S256x4096 .f32} {c : Nat} (hc : c < 16) {vg vu : FVec F S256x128 .f32}
    (hg : Blk D (128 * c) (by omega) vg) (t : Nat) (ht : t < 2) (r : Fin 4) (b : Fin 128) :
    rowScales l2 t ht vg vu (ix2 ⟨r.val, by omega⟩ b) = pow2 l2 (RM D) (ix2 ⟨128 * t + b.val, by omega⟩ ⟨4 * c + r.val, by omega⟩) := by
  refine pow2_congr (smax_apply _ (fun s => absf D (ix2 ⟨128 * t + b.val, by omega⟩ ⟨32 * (4 * c + r.val) + s.val, by omega⟩)) _ _ fun u => ?_)
  rw [groups128_lo _ _ _ r.isLt]
  refine group_half hg (128 * t) (by omega) r u b (fun s => absf D (ix2 ⟨128 * t + b.val, by omega⟩ ⟨32 * (4 * c + r.val) + s.val, by omega⟩)) fun s => ?_
  congr 2; exact Fin.ext (by change 32 * (4 * c + r.val) + _ = 128 * c + 32 * r.val + _; omega)

theorem rowScales_hi {D : FVec F S256x4096 .f32} {c : Nat} (hc : c < 16) {vg vu : FVec F S256x128 .f32}
    (hu : Blk D (2048 + 128 * c) (by omega) vu) (t : Nat) (ht : t < 2) (r : Fin 4) (b : Fin 128) :
    rowScales l2 t ht vg vu (ix2 ⟨4 + r.val, by omega⟩ b) = pow2 l2 (RM D) (ix2 ⟨128 * t + b.val, by omega⟩ ⟨64 + 4 * c + r.val, by omega⟩) := by
  refine pow2_congr (smax_apply _ (fun s => absf D (ix2 ⟨128 * t + b.val, by omega⟩ ⟨32 * (64 + 4 * c + r.val) + s.val, by omega⟩)) _ _ fun u => ?_)
  rw [groups128_hi]
  refine group_half hu (128 * t) (by omega) r u b (fun s => absf D (ix2 ⟨128 * t + b.val, by omega⟩ ⟨32 * (64 + 4 * c + r.val) + s.val, by omega⟩)) fun s => ?_
  congr 2; exact Fin.ext (by change 32 * (64 + 4 * c + r.val) + _ = 2048 + 128 * c + 32 * r.val + _; omega)

/-! ### The gradient of a chunk -/

/-- `x` holds the 128 columns of `A` from column `q` on. -/
def Blk' {w : Nat} (A : (⟨2, ![256, w]⟩ : Shape).Idx → Elt F .bf16) (q : Nat) (hq : q + 128 ≤ w) (x : Vec F S256x128 .bf16) : Prop :=
  ∀ (r : Fin 256) (l : Fin 128), x (ix2 r l) = A (ix2 r ⟨q + l.val, by omega⟩)

theorem blk_load {w : Nat} (A : (⟨2, ![256, w]⟩ : Shape).Idx → Elt F .bf16) (q : Nat) (hq : q + 128 ≤ w) :
    Blk' A q hq (fun j => A ((rect2 256 w 256 128 0 q (by omega) hq).toLoadRect.idx j)) := by
  intro r l
  refine congrArg A ((emb_rect2 (by omega) hq r l).trans ?_)
  congr 1; exact Fin.ext (Nat.zero_add _)

theorem wide_eq (x : Vec F S256x128 .bf16) : wide x = extf .f32 (x : FVec F S256x128 .bf16) (by decide) := by
  unfold wide; rw [shapeCast_self]

variable {X : S256x4096.Idx → Elt F .bf16} {Y : S256x2048.Idx → Elt F .bf16} {c : Nat} (hc : c < 16)
  {xg xu y : Vec F S256x128 .bf16}

theorem wide_g (hx : Blk' X (128 * c) (by omega) xg) (r : Fin 256) (l : Fin 128) :
    wide xg (ix2 r l) = gOf X (ix2 r ⟨128 * c + l.val, by omega⟩) := by
  rw [wide_eq]; exact congrArg (FloatOps.extf _ _) (hx r l)

theorem wide_u (hx : Blk' X (2048 + 128 * c) (by omega) xu) (r : Fin 256) (l : Fin 128) :
    wide xu (ix2 r l) = uOf X (ix2 r ⟨128 * c + l.val, by omega⟩) := by
  rw [wide_eq]
  refine congrArg (FloatOps.extf _ _) ((hx r l).trans ?_)
  congr 2; exact Fin.ext (Nat.add_assoc _ _ _)

theorem wide_y (hx : Blk' Y (128 * c) (by omega) y) (r : Fin 256) (l : Fin 128) :
    wide y (ix2 r l) = yOf Y (ix2 r ⟨128 * c + l.val, by omega⟩) := by
  rw [wide_eq]; exact congrArg (FloatOps.extf _ _) (hx r l)

theorem blk_dgate (h₁ : Blk' X (128 * c) (by omega) xg) (h₂ : Blk' X (2048 + 128 * c) (by omega) xu) (h₃ : Blk' Y (128 * c) (by omega) y) :
    Blk (DX nl2 X Y) (128 * c) (by omega) (dgate nl2 (wide xg) (wide xu) (wide y)) := by
  intro r l
  have e : ∀ (s : Shape) (g u y : FVec F s .f32) (i : s.Idx),
      dgate nl2 g u y i = dgate nl2 (s := S8x128) (fun _ => g i) (fun _ => u i) (fun _ => y i) (ix2 0 0) := fun _ _ _ _ _ => rfl
  have hl : 128 * c + l.val < 2048 := by omega
  refine Eq.trans ?_ (dif_pos hl).symm
  rw [e S256x128, wide_g hc h₁, wide_u hc h₂, wide_y hc h₃]
  exact (e S256x2048 _ _ _ _).symm

theorem blk_dup (h₁ : Blk' X (128 * c) (by omega) xg) (h₃ : Blk' Y (128 * c) (by omega) y) :
    Blk (DX nl2 X Y) (2048 + 128 * c) (by omega) (dup nl2 (wide xg) (wide y)) := by
  intro r l
  have e : ∀ (s : Shape) (g y : FVec F s .f32) (i : s.Idx),
      dup nl2 g y i = dup nl2 (s := S8x128) (fun _ => g i) (fun _ => y i) (ix2 0 0) := fun _ _ _ _ => rfl
  have hl : ¬ 2048 + 128 * c + l.val < 2048 := by omega
  refine Eq.trans ?_ (dif_neg hl).symm
  rw [e S256x128, wide_g hc h₁, wide_y hc h₃]
  refine (e S256x2048 (gOf X) (yOf Y) _).symm.trans (congrArg (dup nl2 (gOf X) (yOf Y)) ?_)
  refine congrArg (ix2 r) (Fin.ext ?_)
  change 128 * c + l.val = 2048 + 128 * c + l.val - 2048
  omega

end Values

end Cert.Swiglu
-- ==== Proof.Chunks.lean ====
/-
  THE SIXTEEN CHUNKS. After `n` of them the first `128n` columns of either half hold their gradient, their groups'
  reciprocal scales and accumulated scales, and the row buffer the row scales of their groups of columns.
-/
module

public import proofs.«01_k».proof.Proof.Values

@[expose] public section

noncomputable section

namespace Cert.Swiglu

open Idealize.ShloMosaic Idealize.ShloMosaic.TcCoe Idealize.ShloMosaic.ValueIdx
open Idealize.SL Idealize.SL.RA Idealize.SL.Sem

section Chunks

variable {F : FTy → Type} [FloatOps F] (nl2 l2 : F .f32)

variable {l2}

/-- Two neighbouring column blocks, one of either half, put in place: where they lie, their contents; elsewhere as before. -/
theorem put_pair {α : Type} {h k p n : Nat} (hn : n < 16) (hp : p + k ≤ h) {w w' : (⟨2, ![k, 128]⟩ : Shape).Idx → α}
    {A : (⟨2, ![h, 4096]⟩ : Shape).Idx → α} {D : (⟨2, ![k, 4096]⟩ : Shape).Idx → α}
    (hw : ∀ (r : Fin k) (l : Fin 128), w (ix2 r l) = D (ix2 r ⟨128 * n + l.val, by omega⟩))
    (hw' : ∀ (r : Fin k) (l : Fin 128), w' (ix2 r l) = D (ix2 r ⟨2048 + 128 * n + l.val, by omega⟩))
    (hA : ∀ (r : Fin k) (c : Fin 4096), c.val % 2048 < 128 * n → A (ix2 ⟨p + r.val, by omega⟩ c) = D (ix2 r c))
    (r : Fin k) (c : Fin 4096) (hc : c.val % 2048 < 128 * (n + 1)) :
    put (rect2 h 4096 k 128 p (2048 + 128 * n) hp (by omega)).emb w'
      (put (rect2 h 4096 k 128 p (128 * n) hp (by omega)).emb w A) (ix2 ⟨p + r.val, by omega⟩ c) = D (ix2 r c) := by
  by_cases h₂ : 2048 + 128 * n ≤ c.val ∧ c.val < 2048 + 128 * n + 128
  · refine (put_rect2_in _ _ r ⟨c.val - (2048 + 128 * n), by omega⟩ rfl (by change c.val = 2048 + 128 * n + (c.val - (2048 + 128 * n)); omega)).trans ((hw' _ _).trans ?_)
    congr 2; exact Fin.ext (by change 2048 + 128 * n + (c.val - (2048 + 128 * n)) = c.val; omega)
  · rw [put_rect2_out _ _ (by omega)]
    by_cases h₁ : 128 * n ≤ c.val ∧ c.val < 128 * n + 128
    · refine (put_rect2_in _ _ r ⟨c.val - 128 * n, by omega⟩ rfl (by change c.val = 128 * n + (c.val - 128 * n); omega)).trans ((hw _ _).trans ?_)
      congr 2; exact Fin.ext (by change 128 * n + (c.val - 128 * n) = c.val; omega)
    · rw [put_rect2_out _ _ (by omega)]
      exact hA r c (by omega)

theorem put_pair_out {α : Type} {h k p n : Nat} (hn : n < 16) (hp : p + k ≤ h) {w w' : (⟨2, ![k, 128]⟩ : Shape).Idx → α}
    {A : (⟨2, ![h, 4096]⟩ : Shape).Idx → α} (r : Fin h) (c : Fin 4096) (hr : r.val < p ∨ p + k ≤ r.val) :
    put (rect2 h 4096 k 128 p (2048 + 128 * n) hp (by omega)).emb w'
      (put (rect2 h 4096 k 128 p (128 * n) hp (by omega)).emb w A) (ix2 r c) = A (ix2 r c) := by
  rw [put_rect2_out _ _ (by omega), put_rect2_out _ _ (by omega)]

/-- Four rows of row scales, read back. -/
theorem putScale_in {t p : Nat} {ht : t < 2} {hp : p + 4 ≤ 128} {w : FVec F S4x128 .f32} {A : S2x128x128.Idx → F .f32}
    (t' : Fin 2) (q b : Fin 128) (r : Fin 4) (h₀ : t'.val = t) (h₁ : q.val = p + r.val) :
    putScale t p ht hp w A (ix3 t' q b) = w (ix2 r b) := by
  unfold putScale
  rw [put_rect3_in _ _ 0 r b (by simpa using h₀) h₁ (Nat.zero_add _).symm]
  exact shapeCast_ab_1ab_apply ..

theorem putScale_out {t p : Nat} {ht : t < 2} {hp : p + 4 ≤ 128} {w : FVec F S4x128 .f32} {A : S2x128x128.Idx → F .f32}
    (t' : Fin 2) (q b : Fin 128) (h : t'.val ≠ t ∨ q.val < p ∨ p + 4 ≤ q.val) :
    putScale t p ht hp w A (ix3 t' q b) = A (ix3 t' q b) := by
  unfold putScale
  exact put_rect3_out _ _ (by omega)

/-- The row scales of half `t`, put in place for chunk `n`. -/
theorem put_rows {D : FVec F S256x4096 .f32} {n : Nat} (hn : n < 16) {vg vu : FVec F S256x128 .f32}
    (hg : Blk D (128 * n) (by omega) vg) (hu : Blk D (2048 + 128 * n) (by omega) vu) (t : Nat) (ht : t < 2)
    {A : S2x128x128.Idx → F .f32} (t' : Fin 2) (q b : Fin 128) (v : F .f32)
    (h : t'.val = t → q.val % 64 < 4 * (n + 1) → 4 * n ≤ q.val % 64 → pow2 l2 (RM D) (ix2 ⟨128 * t'.val + b.val, by omega⟩ q) = v)
    (h' : (t'.val ≠ t ∨ q.val % 64 < 4 * n ∨ 4 * (n + 1) ≤ q.val % 64) → A (ix3 t' q b) = v) :
    putScale t (64 + 4 * n) ht (by omega)
        (extractStridedSlice S4x128 ![4, 0] (rowScales l2 t ht vg vu) (slices2 (by omega) (by omega)))
      (putScale t (4 * n) ht (by omega)
        (extractStridedSlice S4x128 ![0, 0] (rowScales l2 t ht vg vu) (slices2 (by omega) (by omega))) A) (ix3 t' q b) = v := by
  by_cases h₂ : t'.val = t ∧ 64 + 4 * n ≤ q.val ∧ q.val < 64 + 4 * n + 4
  · obtain ⟨h₀, h₂, h₃⟩ := h₂
    rw [putScale_in t' q b ⟨q.val - (64 + 4 * n), by omega⟩ h₀ (by change q.val = 64 + 4 * n + (q.val - (64 + 4 * n)); omega)]
    refine Eq.trans ?_ (h h₀ (by omega) (by omega))
    refine (extractStridedSlice_apply _ _ _ _ (ix2 ⟨4 + (q.val - (64 + 4 * n)), by omega⟩ b) fun x => ?_).trans
      ((rowScales_hi hn hu t ht ⟨q.val - (64 + 4 * n), by omega⟩ b).trans ?_)
    · match x with
      | ⟨0, _⟩ => rfl
      | ⟨1, _⟩ => exact (Nat.zero_add _).symm
    · congr 2
      · exact Fin.ext (by change 128 * t + b.val = 128 * t'.val + b.val; rw [h₀])
      · exact Fin.ext (by change 64 + 4 * n + (q.val - (64 + 4 * n)) = q.val; omega)
  · rw [putScale_out _ _ _ (by omega)]
    by_cases h₁ : t'.val = t ∧ 4 * n ≤ q.val ∧ q.val < 4 * n + 4
    · obtain ⟨h₀, h₁, h₃⟩ := h₁
      rw [putScale_in t' q b ⟨q.val - 4 * n, by omega⟩ h₀ (by change q.val = 4 * n + (q.val - 4 * n); omega)]
      refine Eq.trans ?_ (h h₀ (by omega) (by omega))
      refine (extractStridedSlice_apply _ _ _ _ (ix2 ⟨q.val - 4 * n, by omega⟩ b) fun x => ?_).trans
        ((rowScales_lo hn hg t ht ⟨q.val - 4 * n, by omega⟩ b).trans ?_)
      · match x with
        | ⟨0, _⟩ => exact (Nat.zero_add _).symm
        | ⟨1, _⟩ => exact (Nat.zero_add _).symm
      · congr 2
        · exact Fin.ext (by change 128 * t + b.val = 128 * t'.val + b.val; rw [h₀])
        · exact Fin.ext (by change 4 * n + (q.val - 4 * n) = q.val; omega)
    · rw [putScale_out _ _ _ (by omega)]
      exact h' (by omega)

variable (l2) (a : Nat) (ha : a + 8 ≤ 128)

/-- The gradient of the block the contents `σ` start from. -/
abbrev DXσ (σ : St F) : FVec F S256x4096 .f32 := DX nl2 σ.x σ.dy

/-- What holds after `n` chunks begun at the contents `σ₀`. -/
structure Inv (σ₀ : St F) (n : Nat) (σ : St F) : Prop where
  x : σ.x = σ₀.x
  dy : σ.dy = σ₀.dy
  ex : σ.ex = σ₀.ex
  st : σ.st = σ₀.st
  dx : ∀ (r : Fin 256) (c : Fin 4096), c.val % 2048 < 128 * n → σ.dx (ix2 r c) = DXσ nl2 σ₀ (ix2 r c)
  col : ∀ (r : Fin 8) (c : Fin 4096), c.val % 2048 < 128 * n → σ.col (ix2 r c) = inv (pow2 l2 (CM (DXσ nl2 σ₀))) (ix2 r c)
  acc : ∀ (r : Fin 8) (c : Fin 4096), c.val % 2048 < 128 * n →
    σ.acc (ix2 ⟨a + r.val, Nat.lt_of_lt_of_le (Nat.add_lt_add_left r.isLt a) ha⟩ c) = pow2 l2 (CM (DXσ nl2 σ₀)) (ix2 r c)
  out : ∀ (r : Fin 128) (c : Fin 4096), r.val < a ∨ a + 8 ≤ r.val → σ.acc (ix2 r c) = σ₀.acc (ix2 r c)
  row : ∀ (t : Fin 2) (p b : Fin 128), p.val % 64 < 4 * n →
    σ.row (ix3 t p b) = pow2 l2 (RM (DXσ nl2 σ₀)) (ix2 ⟨128 * t.val + b.val, by omega⟩ p)

theorem Inv.zero (σ : St F) : Inv nl2 l2 a ha σ 0 σ :=
  ⟨rfl, rfl, rfl, rfl, fun _ _ h => absurd h (by omega), fun _ _ h => absurd h (by omega), fun _ _ h => absurd h (by omega),
    fun _ _ _ => rfl, fun _ _ _ h => absurd h (by omega)⟩

variable {nl2 l2}

variable {nD : Nat} {τ : Topo} {sig : RefSig} {Λ : Labels}

local notation "ℙ" => Prog (TpuEff nD τ sig (Elt F) Λ (Proc.tc : Proc τ)) PUnit

variable {defs : Defs nD τ sig (Elt F) Λ} {c : Dev nD} {E : Set ℕ} {M : Mems sig} {R : St F → Prop} {σ₀ σ : St F} {a ha}

theorem runs_ldBlk {w : Nat} {m : Memref sig .tc .vmem ⟨2, ![256, w]⟩ .bf16} {get : St F → (⟨2, ![256, w]⟩ : Shape).Idx → Elt F .bf16}
    {set : St F → ((⟨2, ![256, w]⟩ : Shape).Idx → Elt F .bf16) → St F} (hm : IsBuf (τ := τ) c M m get set) {q : Nat} {h₁ : 0 + 256 ≤ 256}
    {hq : q + 128 ≤ w} {h₀ : 0 < (rect2 256 w 256 128 0 q h₁ hq).shape.numel}
    {k : ((rect2 256 w 256 128 0 q h₁ hq).toLoadRect.shape.Idx → Elt F .bf16) → ℙ}
    (h : ∀ v, Blk' (get σ) q hq v → Runs defs c E M R (k v) σ) :
    Runs defs c E M R (ld m (rect2 256 w 256 128 0 q h₁ hq).toLoadRect h₀ k) σ := runs_ld hm (h _ (blk_load _ q hq))

theorem runs_chunk {n : Nat} {hn : n < 16} {k : ℙ} (hI : Inv nl2 l2 a ha σ₀ n σ)
    (h : ∀ σ', Inv nl2 l2 a ha σ₀ (n + 1) σ' → Runs defs c E M R k σ') :
    Runs defs c E M R (chunk M nl2 l2 a ha n hn k) σ := by
  unfold chunk
  refine runs_ldBlk (isBuf_x c M) fun xg b₁ => runs_ldBlk (isBuf_x c M) fun xu b₂ => runs_ldBlk (isBuf_dy c M) fun y b₃ => ?_
  rw [hI.x] at b₁ b₂
  rw [hI.dy] at b₃
  have hg : Blk (DXσ nl2 σ₀) (128 * n) (by omega) (dgate nl2 (wide xg) (wide xu) (wide y)) := blk_dgate nl2 hn b₁ b₂ b₃
  have hu : Blk (DXσ nl2 σ₀) (2048 + 128 * n) (by omega) (dup nl2 (wide xg) (wide y)) := blk_dup nl2 hn b₁ b₃
  generalize dgate nl2 (wide xg) (wide xu) (wide y) = vg at hg ⊢
  generalize dup nl2 (wide xg) (wide y) = vu at hu ⊢
  refine runs_side fun S₁ => runs_side fun S₂ => runs_rowHalf fun S₃ => runs_rowHalf fun S₄ => h _ ?_
  refine ⟨hI.x, hI.dy, hI.ex, hI.st, ?_, ?_, ?_, ?_, ?_⟩
  · intro r c' hc
    have := put_pair (h := 256) (p := 0) hn (by omega) hg hu (fun (r : Fin 256) (c : Fin 4096) h => (congrArg σ.dx (congrArg (ix2 · c) (Fin.ext (Nat.zero_add _)))).trans (hI.dx r c h)) r c' hc
    rwa [show (⟨0 + r.val, by omega⟩ : Fin 256) = r from Fin.ext (Nat.zero_add _)] at this
  · intro r c' hc
    have := put_pair (h := 8) (p := 0) hn (by omega) (fun r l => inv_congr (pow2_congr (l2 := l2) (smax_groups256 hg r l)))
      (fun r l => inv_congr (pow2_congr (l2 := l2) (smax_groups256 hu r l)))
      (fun (r : Fin 8) (c : Fin 4096) h => (congrArg σ.col (congrArg (ix2 · c) (Fin.ext (Nat.zero_add _)))).trans (hI.col r c h)) r c' hc
    rwa [show (⟨0 + r.val, by omega⟩ : Fin 8) = r from Fin.ext (Nat.zero_add _)] at this
  · intro r c' hc
    exact put_pair hn ha (fun r l => pow2_congr (smax_groups256 hg r l)) (fun r l => pow2_congr (smax_groups256 hu r l)) hI.acc r c' hc
  · intro r c' hr
    exact (put_pair_out hn ha r c' hr).trans (hI.out r c' hr)
  · intro t p b hp
    refine put_rows hn hg hu 1 (by omega) t p b _ (fun _ _ _ => rfl) fun h₁ => ?_
    refine put_rows hn hg hu 0 (by omega) t p b _ (fun _ _ _ => rfl) fun h₂ => hI.row t p b (by omega)

theorem runs_chunks (n : Nat) (hn : n ≤ 16) {k : ℙ} (hI : Inv nl2 l2 a ha σ₀ (16 - n) σ)
    (h : ∀ σ', Inv nl2 l2 a ha σ₀ 16 σ' → Runs defs c E M R k σ') :
    Runs defs c E M R (chunks M nl2 l2 a ha n hn k) σ := by
  induction n generalizing σ with
  | zero => exact h σ hI
  | succ n ih =>
    refine runs_chunk (n := 15 - n) (cast (congrArg (Inv nl2 l2 a ha σ₀ · σ) (by omega)) hI) fun σ' h' => ?_
    exact ih (by omega) (cast (congrArg (Inv nl2 l2 a ha σ₀ · σ') (by omega)) h')

end Chunks

end Cert.Swiglu
-- ==== Proof.Tail.lean ====
/-
  THE REST OF A STEP. The row scales leave the row buffer, the sixteen tiles make the codes, and at the end of a window the
  accumulated scales are written back; with the chunks before, what the whole body leaves.
-/
module

public import proofs.«01_k».proof.Proof.Chunks

@[expose] public section

noncomputable section

namespace Cert.Swiglu

open Idealize.ShloMosaic Idealize.ShloMosaic.TcCoe Idealize.ShloMosaic.ValueIdx
open Idealize.SL Idealize.SL.RA Idealize.SL.Sem

section Tail

variable {F : FTy → Type} [FloatOps F] {nl2 l2 : F .f32}

/-- Eight blocks of 32 rows, stacked. -/
theorem concat8 {α : Type} (f : Fin 8 → S32x256.Idx → α)
    (h : Shape.Concatenates [S32x256, S32x256, S32x256, S32x256, S32x256, S32x256, S32x256, S32x256] S256x256 0)
    (k : Fin 8) (r : Fin 32) (l : Fin 256) :
    concatenate S256x256 0 [⟨S32x256, f 0⟩, ⟨S32x256, f 1⟩, ⟨S32x256, f 2⟩, ⟨S32x256, f 3⟩, ⟨S32x256, f 4⟩, ⟨S32x256, f 5⟩,
      ⟨S32x256, f 6⟩, ⟨S32x256, f 7⟩] h (ix2 ⟨32 * k.val + r.val, by omega⟩ l) = f k (ix2 r l) := by
  have hb : 32 * k.val + r.val < 256 := by omega
  have go : ∀ (n : Nat) (hn : n < 8), k.val = n → ([(⟨S32x256, f 0⟩ : (s : Shape) × (s.Idx → α)), ⟨S32x256, f 1⟩, ⟨S32x256, f 2⟩, ⟨S32x256, f 3⟩, ⟨S32x256, f 4⟩, ⟨S32x256, f 5⟩,
      ⟨S32x256, f 6⟩, ⟨S32x256, f 7⟩][n]'hn = ⟨S32x256, f k⟩) → _ → _ := fun n hn e he hpre =>
    concatenate_apply_piece 0 [⟨S32x256, f 0⟩, ⟨S32x256, f 1⟩, ⟨S32x256, f 2⟩, ⟨S32x256, f 3⟩, ⟨S32x256, f 4⟩, ⟨S32x256, f 5⟩,
      ⟨S32x256, f 6⟩, ⟨S32x256, f 7⟩] h (ix2 ⟨32 * k.val + r.val, hb⟩ l) n hn S32x256 (f k) he rfl (32 * k.val) hpre (ix2 r l)
      (fun b hb => by
        match b with
        | ⟨0, _⟩ => exact absurd rfl hb
        | ⟨1, _⟩ => rfl) rfl
  match k with
  | ⟨0, _⟩ => exact go 0 (by omega) rfl rfl rfl
  | ⟨1, _⟩ => exact go 1 (by omega) rfl rfl rfl
  | ⟨2, _⟩ => exact go 2 (by omega) rfl rfl rfl
  | ⟨3, _⟩ => exact go 3 (by omega) rfl rfl rfl
  | ⟨4, _⟩ => exact go 4 (by omega) rfl rfl rfl
  | ⟨5, _⟩ => exact go 5 (by omega) rfl rfl rfl
  | ⟨6, _⟩ => exact go 6 (by omega) rfl rfl rfl
  | ⟨7, _⟩ => exact go 7 (by omega) rfl rfl rfl

/-- Two blocks of 128 rows, stacked. -/
theorem concat2 {α : Type} (A : S256x128.Idx → α) {u v : S128x128.Idx → α} (h : Shape.Concatenates [S128x128, S128x128] S256x128 0)
    (hu : ∀ r l : Fin 128, u (ix2 r l) = A (ix2 ⟨r.val, by omega⟩ l))
    (hv : ∀ r l : Fin 128, v (ix2 r l) = A (ix2 ⟨128 + r.val, by omega⟩ l)) :
    concatenate S256x128 0 [⟨S128x128, u⟩, ⟨S128x128, v⟩] h = A := by
  funext i
  obtain ⟨r, l, rfl⟩ : ∃ (r : Fin 256) (l : Fin 128), i = ix2 r l := ⟨i 0, i 1, eq_ix2 i⟩
  by_cases hr : r.val < 128
  · refine (concatenate_pair_apply_left 0 u v h (ix2 r l) rfl (ix2 ⟨r.val, hr⟩ l) fun b => ?_).trans (hu _ _)
    match b with
    | ⟨0, _⟩ => rfl
    | ⟨1, _⟩ => rfl
  · refine (concatenate_pair_apply_right 0 u v h (ix2 r l) rfl rfl (ix2 ⟨r.val - 128, by omega⟩ l) (fun b hb => ?_) ?_).trans ((hv _ _).trans ?_)
    · match b with
      | ⟨0, _⟩ => exact absurd rfl hb
      | ⟨1, _⟩ => rfl
    · change r.val - 128 + 128 = r.val; omega
    · congr 2; exact Fin.ext (by change 128 + (r.val - 128) = r.val; omega)

/-- The codes of 32 rows of a tile of the transposed block. -/
theorem codesT_apply {D : FVec F S256x4096 .f32} {j : Nat} (hj : j < 16) {v : FVec F S256x256 .f32} {k : Nat} (hk : k < 8) {p : Nat}
    (hkp : p = 32 * k) (hp : p + 32 ≤ 256)
    {C : S1x256.Idx → Elt F .f32} (hv : v = cols j hj D)
    (hC : ∀ l : Fin 256, C (ix2 0 l) = inv (pow2 l2 (CM D)) (ix2 ⟨k, hk⟩ ⟨256 * j + l.val, by omega⟩)) (r : Fin 32) (l : Fin 256) :
    codesT v p hp C (ix2 r l) = CT l2 D (ix2 ⟨256 * j + l.val, by omega⟩ ⟨32 * k + r.val, by omega⟩) := by
  subst hv hkp
  unfold codesT CT
  refine quant_congr ?_ ?_
  · refine extractStridedSlice_apply _ _ _ _ (ix2 ⟨32 * k + r.val, by omega⟩ l) fun x => ?_
    match x with
    | ⟨0, _⟩ => rfl
    | ⟨1, _⟩ => exact (Nat.zero_add _).symm
  · rw [shapeCast_self, broadcastTo_1b_ab_apply]
    refine (hC l).trans ?_
    congr 2; exact Fin.ext (by change k = (32 * k + r.val) / 32; omega)

variable {nD : Nat} {τ : Topo} {sig : RefSig} {Λ : Labels}

local notation "ℙ" => Prog (TpuEff nD τ sig (Elt F) Λ (Proc.tc : Proc τ)) PUnit

variable {defs : Defs nD τ sig (Elt F) Λ} {c : Dev nD} {E : Set ℕ} {M : Mems sig} {R : St F → Prop} {σ₀ σ : St F}
variable {a : Nat} {ha : a + 8 ≤ 128}

/-- The buffers the codes and row scales leave in may change. -/
theorem Inv.outs {n : Nat} (h : Inv nl2 l2 a ha σ₀ n σ) (co sc ct) : Inv nl2 l2 a ha σ₀ n { σ with co := co, sc := sc, ct := ct } :=
  ⟨h.x, h.dy, h.ex, h.st, h.dx, h.col, h.acc, h.out, h.row⟩

theorem runs_rowOut {t : Nat} {ht : t < 2} {k : FVec F S128x128 .bf16 → ℙ} (hI : Inv nl2 l2 a ha σ₀ 16 σ)
    (h : ∀ w : FVec F S128x128 .f32, (∀ r l : Fin 128, w (ix2 r l) = pow2 l2 (RM (DXσ nl2 σ₀)) (ix2 ⟨128 * t + r.val, by omega⟩ l)) →
      Runs defs c E M R (k (truncf .bf16 (inv w) (by decide)))
        { σ with sc := put (rect2 256 128 128 128 (128 * t) 0 (by omega) (by omega)).emb w σ.sc }) :
    Runs defs c E M R (rowOut M t ht k) σ := by
  unfold rowOut
  refine runs_ld (isBuf_row c M) (runs_st (isBuf_sc c M) (h _ fun r l => ?_))
  rw [transpose_ix2_apply, shapeCast_1ab_ab_apply]
  refine (congrArg σ.row ((emb_rect3 (by omega) (by omega) (by omega) 0 l r).trans ?_)).trans (hI.row ⟨t, ht⟩ l r (by omega))
  congr 1 <;> exact Fin.ext (Nat.zero_add _)

/-- What holds after `n` tiles. -/
structure Tiles (nl2 l2 : F .f32) (a : Nat) (ha : a + 8 ≤ 128) (σ₀ : St F) (n : Nat) (σ : St F) : Prop where
  inv : Inv nl2 l2 a ha σ₀ 16 σ
  sc : σ.sc = pow2 l2 (RM (DXσ nl2 σ₀))
  co : ∀ (r : Fin 256) (c : Fin 4096), c.val < 256 * n → σ.co (ix2 r c) = CO l2 (DXσ nl2 σ₀) σ₀.ex (ix2 r c)
  ct : ∀ (c : Fin 4096) (r : Fin 256), c.val < 256 * n → σ.ct (ix2 c r) = CT l2 (DXσ nl2 σ₀) (ix2 c r)

theorem runs_ldCol {k : Nat} {hk : k < 8} {j : Nat} (hj : j < 16) {hq : 256 * j + 256 ≤ 4096} {f : (S1x256.Idx → Elt F .f32) → ℙ}
    (hI : Inv nl2 l2 a ha σ₀ 16 σ)
    (h : ∀ C : S1x256.Idx → Elt F .f32,
      (∀ l : Fin 256, C (ix2 0 l) = Cert.Swiglu.inv (pow2 l2 (CM (DXσ nl2 σ₀))) (ix2 ⟨k, hk⟩ ⟨256 * j + l.val, by omega⟩)) →
      Runs defs c E M R (f C) σ) :
    Runs defs c E M R (ldCol M k hk (256 * j) hq f) σ := by
  unfold ldCol
  refine runs_ld (isBuf_col c M) (h _ fun l => ?_)
  exact (congrArg σ.col (emb_rect2 (by omega) hq 0 l)).trans (hI.col ⟨k, hk⟩ ⟨256 * j + l.val, by omega⟩ (by change (256 * j + l.val) % 2048 < _; omega))

theorem runs_ldAs {s : Shape} {e : EltTy} {m : Memref sig .tc .vmem s e} {get : St F → s.Idx → Elt F e}
    {set : St F → (s.Idx → Elt F e) → St F} (hm : IsBuf (τ := τ) c M m get set) {r : LoadRect s} {h₀ : 0 < r.shape.numel}
    {k : (r.shape.Idx → Elt F e) → ℙ} {v : r.shape.Idx → Elt F e} (hv : (fun j => get σ (r.idx j)) = v)
    (h : Runs defs c E M R (k v) σ) : Runs defs c E M R (ld m r h₀ k) σ := runs_ld hm (hv ▸ h)

theorem runs_st8As {s : Shape} {m : Memref sig .tc .vmem s .fp8e4m3} {get : St F → s.Idx → Elt F .fp8e4m3}
    {set : St F → (s.Idx → Elt F .fp8e4m3) → St F} (hm : IsBuf (τ := τ) c M m get set) {r : Rect s} {h₀ : 0 < r.shape.numel}
    {hx : (m.access r).Stores Finset.univ} {w w' : r.shape.Idx → Elt F .fp8e4m3} {k : ℙ} (hw : w = w')
    (h : Runs defs c E M R k (set σ (put r.emb w' (get σ)))) :
    Runs defs c E M R (st8 m r h₀ hx w k) σ := runs_st8 hm (hw ▸ h)

theorem tileCo_eq (D : FVec F S256x4096 .f32) (ex : FVec F S128x4096 .bf16) (j : Nat) (hj : j < 16) :
    quant (cols j hj D) (matmul dims none (IR l2 D) (shapeCast S128x256 (cols j hj ex) rfl : FVec F S128x256 .bf16) (constant S256x256 .f32 0x00000000#32))
      = tileCo l2 D ex j hj := by unfold tileCo; rw [shapeCast_self]

theorem runs_tile {n : Nat} {hn : n < 16} {h₁ h₂} {k : ℙ} (hI : Tiles nl2 l2 a ha σ₀ n σ)
    (h : ∀ σ', Tiles nl2 l2 a ha σ₀ (n + 1) σ' → Runs defs c E M R k σ') :
    Runs defs c E M R (tile M (IR l2 (DXσ nl2 σ₀)) n hn h₁ h₂ k) σ := by
  unfold tile
  have I := hI.inv
  have hv : (fun i => σ.dx ((rect2 256 4096 256 256 0 (256 * n) (by omega) (by omega)).toLoadRect.idx i)) = cols n hn (DXσ nl2 σ₀) := by
    funext i
    obtain ⟨r, l, rfl⟩ : ∃ (r : Fin 256) (l : Fin 256), i = ix2 r l := ⟨i 0, i 1, eq_ix2 i⟩
    refine (congrArg σ.dx ((emb_rect2 (by omega) (by omega) r l).trans ?_)).trans (I.dx r ⟨256 * n + l.val, by omega⟩ (by change (256 * n + l.val) % 2048 < _; omega))
    congr 1; exact Fin.ext (Nat.zero_add _)
  have he : (fun i => σ.ex ((rect2 128 4096 128 256 0 (256 * n) (by omega) (by omega)).toLoadRect.idx i)) = cols n hn σ₀.ex := by
    funext i
    obtain ⟨r, l, rfl⟩ : ∃ (r : Fin 128) (l : Fin 256), i = ix2 r l := ⟨i 0, i 1, eq_ix2 i⟩
    refine (congrArg σ.ex ((emb_rect2 (by omega) (by omega) r l).trans ?_)).trans (congrFun I.ex (ix2 r ⟨256 * n + l.val, by omega⟩))
    congr 1; exact Fin.ext (Nat.zero_add _)
  refine runs_ldAs (isBuf_ex c M) he (runs_ldAs (isBuf_dx c M) hv (runs_st8As (isBuf_co c M) (tileCo_eq (DXσ nl2 σ₀) σ₀.ex n hn) ?_))
  have hI' : ∀ co, Inv nl2 l2 a ha σ₀ 16 { σ with co := co } := fun co => I.outs co σ.sc σ.ct
  refine runs_ldCol hn (hI' _) fun c0 e0 => runs_ldCol hn (hI' _) fun c1 e1 => runs_ldCol hn (hI' _) fun c2 e2 => runs_ldCol hn (hI' _) fun c3 e3 => ?_
  refine runs_ldCol hn (hI' _) fun c4 e4 => runs_ldCol hn (hI' _) fun c5 e5 => runs_ldCol hn (hI' _) fun c6 e6 => runs_ldCol hn (hI' _) fun c7 e7 => ?_
  refine runs_st8 (isBuf_ct c M) (h _ ⟨I.outs _ _ _, hI.sc, fun r c' hc => ?_, fun c' r hc => ?_⟩)
  · by_cases hc' : c'.val < 256 * n
    · exact (put_rect2_out _ _ (by omega)).trans (hI.co r c' hc')
    · refine (put_rect2_in _ _ r ⟨c'.val - 256 * n, by omega⟩ (Nat.zero_add _).symm (by change c'.val = 256 * n + (c'.val - 256 * n); omega)).trans ?_
      have e : ∀ (j : Nat) (hj : j < 16) (l : Fin 256), j = n → l.val = c'.val - 256 * n →
          tileCo l2 (DXσ nl2 σ₀) σ₀.ex n hn (ix2 r ⟨c'.val - 256 * n, by omega⟩) = tileCo l2 (DXσ nl2 σ₀) σ₀.ex j hj (ix2 r l) := by
        intro j hj l e₁ e₂; subst e₁; congr 2; exact Fin.ext e₂.symm
      exact e (c'.val / 256) (by omega) ⟨c'.val % 256, by omega⟩ (by omega) (by change c'.val % 256 = _; omega)
  · by_cases hc' : c'.val < 256 * n
    · exact (put_rect2_out _ _ (by omega)).trans (hI.ct c' r hc')
    · refine (put_rect2_in _ _ ⟨c'.val - 256 * n, by omega⟩ r (by change c'.val = 256 * n + (c'.val - 256 * n); omega) (Nat.zero_add _).symm).trans ?_
      rw [transpose_ix2_apply]
      have key := concat8 ![codesT (cols n hn (DXσ nl2 σ₀)) 0 (by omega) c0, codesT (cols n hn (DXσ nl2 σ₀)) 32 (by omega) c1,
          codesT (cols n hn (DXσ nl2 σ₀)) 64 (by omega) c2, codesT (cols n hn (DXσ nl2 σ₀)) 96 (by omega) c3,
          codesT (cols n hn (DXσ nl2 σ₀)) 128 (by omega) c4, codesT (cols n hn (DXσ nl2 σ₀)) 160 (by omega) c5,
          codesT (cols n hn (DXσ nl2 σ₀)) 192 (by omega) c6, codesT (cols n hn (DXσ nl2 σ₀)) 224 (by omega) c7]
        (by decide) ⟨r.val / 32, by omega⟩ ⟨r.val % 32, by omega⟩ ⟨c'.val - 256 * n, by omega⟩
      have er : (⟨32 * (r.val / 32) + r.val % 32, by omega⟩ : Fin 256) = r := Fin.ext (Nat.div_add_mod _ _)
      have ec : (⟨256 * n + (c'.val - 256 * n), by omega⟩ : Fin 4096) = c' := Fin.ext (by change 256 * n + (c'.val - 256 * n) = c'.val; omega)
      rw [er] at key
      refine key.trans ?_
      have fin : ∀ (k : Fin 8) (s : Fin 32) (l : Fin 256), (![codesT (cols n hn (DXσ nl2 σ₀)) 0 (by omega) c0, codesT (cols n hn (DXσ nl2 σ₀)) 32 (by omega) c1,
          codesT (cols n hn (DXσ nl2 σ₀)) 64 (by omega) c2, codesT (cols n hn (DXσ nl2 σ₀)) 96 (by omega) c3,
          codesT (cols n hn (DXσ nl2 σ₀)) 128 (by omega) c4, codesT (cols n hn (DXσ nl2 σ₀)) 160 (by omega) c5,
          codesT (cols n hn (DXσ nl2 σ₀)) 192 (by omega) c6, codesT (cols n hn (DXσ nl2 σ₀)) 224 (by omega) c7] : Fin 8 → FVec F S32x256 .fp8e4m3) k (ix2 s l)
          = CT l2 (DXσ nl2 σ₀) (ix2 ⟨256 * n + l.val, by omega⟩ ⟨32 * k.val + s.val, by omega⟩) := by
        intro k s l
        match k with
        | ⟨0, _⟩ => exact codesT_apply hn (by omega) rfl (by omega) rfl e0 s l
        | ⟨1, _⟩ => exact codesT_apply hn (by omega) rfl (by omega) rfl e1 s l
        | ⟨2, _⟩ => exact codesT_apply hn (by omega) rfl (by omega) rfl e2 s l
        | ⟨3, _⟩ => exact codesT_apply hn (by omega) rfl (by omega) rfl e3 s l
        | ⟨4, _⟩ => exact codesT_apply hn (by omega) rfl (by omega) rfl e4 s l
        | ⟨5, _⟩ => exact codesT_apply hn (by omega) rfl (by omega) rfl e5 s l
        | ⟨6, _⟩ => exact codesT_apply hn (by omega) rfl (by omega) rfl e6 s l
        | ⟨7, _⟩ => exact codesT_apply hn (by omega) rfl (by omega) rfl e7 s l
      refine (fin _ _ _).trans ?_
      exact congrArg (CT l2 (DXσ nl2 σ₀)) (congrArg₂ ix2 ec er)

theorem runs_tiles {h₁ h₂} (n : Nat) (hn : n ≤ 16) {k : ℙ} (hI : Tiles nl2 l2 a ha σ₀ (16 - n) σ)
    (h : ∀ σ', Tiles nl2 l2 a ha σ₀ 16 σ' → Runs defs c E M R k σ') :
    Runs defs c E M R (tiles M (IR l2 (DXσ nl2 σ₀)) h₁ h₂ n hn k) σ := by
  induction n generalizing σ with
  | zero => exact h σ hI
  | succ n ih =>
    refine runs_tile (n := 15 - n) (cast (congrArg (Tiles nl2 l2 a ha σ₀ · σ) (by omega)) hI) fun σ' h' => ?_
    exact ih (by omega) (cast (congrArg (Tiles nl2 l2 a ha σ₀ · σ') (by omega)) h')

/-- What the body leaves, begun at the contents `σ₀`. -/
structure Post (nl2 l2 : F .f32) (a : Nat) (ha : a + 8 ≤ 128) (fl : Prop) (σ₀ σ : St F) : Prop where
  x : σ.x = σ₀.x
  dy : σ.dy = σ₀.dy
  ex : σ.ex = σ₀.ex
  co : σ.co = CO l2 (DXσ nl2 σ₀) σ₀.ex
  sc : σ.sc = pow2 l2 (RM (DXσ nl2 σ₀))
  ct : σ.ct = CT l2 (DXσ nl2 σ₀)
  acc : ∀ (r : Fin 8) (c : Fin 4096),
    σ.acc (ix2 ⟨a + r.val, Nat.lt_of_lt_of_le (Nat.add_lt_add_left r.isLt a) ha⟩ c) = pow2 l2 (CM (DXσ nl2 σ₀)) (ix2 r c)
  out : ∀ (r : Fin 128) (c : Fin 4096), r.val < a ∨ a + 8 ≤ r.val → σ.acc (ix2 r c) = σ₀.acc (ix2 r c)
  flushed : fl → ∀ (c : Fin 4096) (r : Fin 128), σ.st (ix2 c r) = σ.acc (ix2 r c)
  kept : ¬ fl → σ.st = σ₀.st

/-- What holds after `n` blocks of the write-back: everything but `st` as before it. -/
def Flushed (σ₁ : St F) (n : Nat) (σ : St F) : Prop :=
  ∃ S : S4096x128.Idx → F .f32, σ = { σ₁ with st := S } ∧
    ∀ (c : Fin 4096) (r : Fin 128), c.val < 128 * n → S (ix2 c r) = σ₁.acc (ix2 r c)

theorem runs_flush {σ₁ : St F} {n : Nat} {hn : n < 32} {k : ℙ} (hI : Flushed σ₁ n σ)
    (h : ∀ σ', Flushed σ₁ (n + 1) σ' → Runs defs c E M R k σ') :
    Runs defs c E M R (flush M n hn k) σ := by
  obtain ⟨S, rfl, hS⟩ := hI
  unfold flush
  refine runs_ld (isBuf_acc c M) (runs_st (isBuf_st c M) (h _ ⟨_, rfl, fun c' r hc => ?_⟩))
  by_cases hc' : c'.val < 128 * n
  · exact (put_rect2_out _ _ (by omega)).trans (hS c' r hc')
  · refine (put_rect2_in _ _ ⟨c'.val - 128 * n, by omega⟩ r (by change c'.val = 128 * n + (c'.val - 128 * n); omega) (Nat.zero_add _).symm).trans ?_
    rw [transpose_ix2_apply]
    refine (congrArg σ₁.acc ((emb_rect2 (by omega) (by omega) r ⟨c'.val - 128 * n, by omega⟩).trans ?_))
    congr 1
    · exact Fin.ext (Nat.zero_add _)
    · exact Fin.ext (by change 128 * n + (c'.val - 128 * n) = c'.val; omega)

theorem runs_flushes {σ₁ : St F} (n : Nat) (hn : n ≤ 32) {k : ℙ} (hI : Flushed σ₁ (32 - n) σ)
    (h : ∀ σ', Flushed σ₁ 32 σ' → Runs defs c E M R k σ') :
    Runs defs c E M R (flushes M n hn k) σ := by
  induction n generalizing σ with
  | zero => exact h σ hI
  | succ n ih =>
    refine runs_flush (n := 31 - n) (cast (congrArg (Flushed σ₁ · σ) (by omega)) hI) fun σ' h' => ?_
    exact ih (by omega) (cast (congrArg (Flushed σ₁ · σ') (by omega)) h')

/-- THE BODY: from any contents it runs to contents as `Post` says. -/
theorem runs_body (fl : Prop) [Decidable fl] {h₁ h₂} :
    Runs defs c E M (Post nl2 l2 a ha fl σ₀) (body M nl2 l2 a ha fl h₁ h₂) σ₀ := by
  unfold body
  refine runs_chunks 16 le_rfl (Inv.zero nl2 l2 a ha σ₀) fun σ I => ?_
  refine runs_rowOut I fun w₀ e₀ => ?_
  refine runs_rowOut (I.outs σ.co _ σ.ct) fun w₁ e₁ => ?_
  rw [concat2 (IR l2 (DXσ nl2 σ₀)) _ (fun r l => congrArg (FloatOps.truncf _ _) (inv_congr ((e₀ r l).trans (congrArg _ (congrArg (ix2 · l) (Fin.ext (Nat.zero_add _)))))))
    (fun r l => congrArg (FloatOps.truncf _ _) (inv_congr (e₁ r l)))]
  refine runs_tiles 16 le_rfl ⟨I.outs σ.co _ σ.ct, ?_, fun _ _ h => absurd h (by omega), fun _ _ h => absurd h (by omega)⟩ fun σ' T => ?_
  · funext i
    obtain ⟨r, l, rfl⟩ : ∃ (r : Fin 256) (l : Fin 128), i = ix2 r l := ⟨i 0, i 1, eq_ix2 i⟩
    by_cases hr : r.val < 128
    · refine (put_rect2_out _ _ (by omega)).trans ?_
      refine (put_rect2_in _ _ ⟨r.val, hr⟩ l (by change r.val = 128 * 0 + r.val; omega) (Nat.zero_add _).symm).trans ((e₀ _ _).trans ?_)
      congr 2; exact Fin.ext (Nat.zero_add _)
    · refine (put_rect2_in _ _ ⟨r.val - 128, by omega⟩ l (by change r.val = 128 * 1 + (r.val - 128); omega) (Nat.zero_add _).symm).trans ((e₁ _ _).trans ?_)
      congr 2; exact Fin.ext (by change 128 * 1 + (r.val - 128) = r.val; omega)
  have I' := T.inv
  have co : σ'.co = CO l2 (DXσ nl2 σ₀) σ₀.ex := by
    funext i
    obtain ⟨r, l, rfl⟩ : ∃ (r : Fin 256) (l : Fin 4096), i = ix2 r l := ⟨i 0, i 1, eq_ix2 i⟩
    exact T.co r l (by omega)
  have ct : σ'.ct = CT l2 (DXσ nl2 σ₀) := by
    funext i
    obtain ⟨r, l, rfl⟩ : ∃ (r : Fin 4096) (l : Fin 256), i = ix2 r l := ⟨i 0, i 1, eq_ix2 i⟩
    exact T.ct r l (by omega)
  split
  · next hf =>
    refine runs_flushes (σ₁ := σ') 32 le_rfl ⟨σ'.st, rfl, fun _ _ h => absurd h (by omega)⟩ fun σ'' => ?_
    rintro ⟨S, rfl, hS⟩
    exact Runs.ret ⟨I'.x, I'.dy, I'.ex, co, T.sc, ct, fun r c => I'.acc r c (by omega), I'.out, fun _ c r => hS c r (by omega), fun h => absurd hf h⟩
  · next hf =>
    exact Runs.ret ⟨I'.x, I'.dy, I'.ex, co, T.sc, ct, fun r c => I'.acc r c (by omega), I'.out, fun h => absurd h hf, fun _ => I'.st⟩

end Tail

end Cert.Swiglu
-- ==== Proof.Kernel.Body.lean ====
/-
  THE STEP ON ITS BUFFERS. The facts of the schedule, and the body's rule at the buffers of step `t`.
-/
module

public import proofs.«01_k».proof.Proof.Kernel.BodyEq
public import proofs.«01_k».proof.Proof.Tail
public import Idealize.ShloMosaic.Lib.Pipeline.Frame
public import Idealize.ShloMosaic.Lib.Pipeline.FrameBody

@[expose] public section

set_option maxRecDepth 16384

noncomputable section

namespace Cert.Kernel.Swi

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Cert.Kernel Cert.Kernel.Facts₀
open Cert.Swiglu (Mems St held Runs DX CO CT RM CM pow2 Post rect2)

attribute [local instance] Cert.Kernel.Gen.facts

/-! ## The schedule -/

/-- Step `t` gives rows `8 (t mod 16)` and the seven after them to its column scales. -/
theorem accRow_eq : ∀ t : Fin grid0.N, accRow (grid0.coords t) = 8 * (t.val % 16) := by decide +kernel

/-- The column scales are handed over where the program tests for it, -/
theorem flush_6 : ∀ t : Fin grid0.N, (win0 6).flush t = (k0_cond1 (grid0.coords t) == 1#1) := by decide +kernel

/-- which is after sixteen steps or more. -/
theorem flush_late : ∀ t : Fin grid0.N, k0_cond1 (grid0.coords t) = 1#1 → 15 ≤ t.val := by decide +kernel

theorem packed_co : ∀ j : Fin 16, (rect2 256 4096 256 256 0 (256 * j.val) (by omega) (by omega)).PackedRows
    (EltTy.packing .fp8e4m3) := by decide
theorem packed_ct : ∀ j : Fin 16, (rect2 4096 256 256 256 (256 * j.val) 0 (by omega) (by omega)).PackedRows
    (EltTy.packing .fp8e4m3) := by decide

/-- The last step up to `t` whose number is `k` mod sixteen. -/
def latest (t k : Nat) : Nat := t - (t + 16 - k) % 16

variable {F : FTy → Type} [FloatOps F]

local notation "𝕄" => MT nD τ sig Unit (Elt F) ℕ (UR sig nD τ) ℕ

/-- The buffers step `t` works on. -/
abbrev Mt (t : Fin cfg0.N) : Mems sig :=
  ⟨Gen.st0_0 t, Gen.st0_1 t, Gen.st0_2 t, Gen.st0_3 t, Gen.st0_4 t, Gen.st0_5 t, Gen.st0_6 t, Memref.whole cc0_scratch0,
    Memref.whole cc0_scratch1, Memref.whole cc0_scratch2, Memref.whole cc0_scratch3, Memref.whole cc0_scratch4⟩

/-- The body at step `t`, from any contents of its buffers. -/
theorem sound_body (c : Dev nD) (E : Set ℕ) (t : Fin cfg0.N) (σ : St F) :
    Runs defs₀ c E (Mt t) (Post nl2 l2 (accRow (grid0.coords t)) (accRow_le _) (k0_cond1 (grid0.coords t) = 1#1) σ)
      (Gen.bodyAt0 t) σ := by
  have h : Gen.bodyAt0 (F := F) t = Cert.Swiglu.body (Mt t) nl2 l2 (accRow (grid0.coords t)) (accRow_le _)
      (k0_cond1 (grid0.coords t) = 1#1)
      (fun j hj => View.stores_vmem (by decide : 0 < S256x256.numel)
        ((hstage0_3 ((cfg0.slots t 3).cast nbuf0_3)).storeExact_slice rfl _ (packed_co ⟨j, hj⟩)) (fun _ => rfl))
      (fun j hj => View.stores_vmem (by decide : 0 < S256x256.numel)
        ((hstage0_5 ((cfg0.slots t 5).cast nbuf0_5)).storeExact_slice rfl _ (packed_ct ⟨j, hj⟩)) (fun _ => rfl)) :=
    body_eq (grid0.coords t) (Mt t) _ _ _ _ _ _ _ _ _ _ _ _ _ _
  rw [h]
  exact Cert.Swiglu.runs_body _

end Cert.Kernel.Swi
-- ==== Proof.Kernel.Run.lean ====
/-
  THE RUN. The proof data of the pipeline: what each staging buffer holds after step `t`, and what the accumulating
  scratch buffer holds between the steps — the column scales of the last sixteen steps, eight rows for each. The body
  obligation from the body's rule, and the run.
-/
module

public import proofs.«01_k».proof.Proof.Kernel.Body
public import Idealize.ShloMosaic.Lib.Pipeline.Frame
public import Idealize.ShloMosaic.Lib.Pipeline.FrameBody

@[expose] public section

set_option maxRecDepth 16384

noncomputable section

namespace Cert.Kernel.Swi

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Cert.Kernel Cert.Kernel.Facts₀
open Cert.Swiglu (Mems St held Runs DX CO CT RM CM pow2 Post rect2)

attribute [local instance] Cert.Kernel.Gen.facts

variable {F : FTy → Type} [FloatOps F]

local notation "𝕄" => MT nD τ sig Unit (Elt F) ℕ (UR sig nD τ) ℕ

variable (m : (ℓ : Loc nD τ sig) → Buf (Elt F) ℓ)

/-! ## The proof data -/

/-- Step `t`'s blocks of the two operands and of the expansion matrix. -/
def X (c : Dev nD) (t : Fin cfg0.N) : S256x4096.Idx → Elt F .bf16 := Gen.iblk m c 0 t
def Y (c : Dev nD) (t : Fin cfg0.N) : S256x2048.Idx → Elt F .bf16 := Gen.iblk m c 1 t
def EX (c : Dev nD) (t : Fin cfg0.N) : S128x4096.Idx → Elt F .bf16 := Gen.iblk m c 2 t

/-- The gradient block step `t` computes. -/
def D (c : Dev nD) (t : Fin cfg0.N) : FVec F S256x4096 .f32 := DX nl2 (X m c t) (Y m c t)

/-- What the buffer of the transposed column scales holds where it is handed over: of each residue the last step's. -/
def ST (c : Dev nD) (t : Fin cfg0.N) : S4096x128.Idx → Elt F .f32 := fun i =>
  pow2 l2 (CM (D m c ⟨latest t.val ((i 1).val / 8), Nat.lt_of_le_of_lt (Nat.sub_le _ _) t.isLt⟩))
    (ix2 (⟨(i 1).val % 8, Nat.mod_lt _ (by decide)⟩ : Fin 8) (i 0 : Fin 4096))

theorem rowLt (s : Nat) (r : Fin 8) : 8 * (s % 16) + r.val < 128 := by have := r.isLt; omega

/-- Before step `n` the accumulating scratch holds the column scales of the last sixteen steps. -/
def AccOk (c : Dev nD) (n : Nat) (A : S128x4096.Idx → Elt F .f32) : Prop :=
  ∀ s : Fin cfg0.N, s.val < n → n ≤ s.val + 16 → ∀ (r : Fin 8) (l : Fin 4096),
    A (ix2 ⟨8 * (s.val % 16) + r.val, rowLt _ _⟩ l) = pow2 l2 (CM (D m c s)) (ix2 r l)

def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => CO l2 (D m c t) (EX m c t)
    | ⟨4, _⟩ => pow2 l2 (RM (D m c t))
    | ⟨5, _⟩ => CT l2 (D m c t)
    | ⟨6, _⟩ => ST m c t
  Φ n := iprop((∃ f, owns (c : Thread nD τ) (Memref.whole cc0_scratch0) fullShare f)
    ∗ (∃ f, owns (c : Thread nD τ) (Memref.whole cc0_scratch1) fullShare f)
    ∗ (∃ f, owns (c : Thread nD τ) (Memref.whole cc0_scratch2) fullShare f)
    ∗ (∃ f, owns (c : Thread nD τ) (Memref.whole cc0_scratch3) fullShare f)
    ∗ (∃ A, ⌜AccOk m c n.val A⌝ ∗ owns (c : Thread nD τ) (Memref.whole cc0_scratch4) fullShare A)
    ∗ ∃ r, prngReg c r)
  q _ := fullShare
  owed _ := 0

theorem before_0 (c : Dev nD) (t : Fin cfg0.N) (d) : (dats m 0 c).before 0 t d = X m c t :=
  Gen.before0_0_of m (dats m 0 c) rfl (fun _ => rfl) t d
theorem before_1 (c : Dev nD) (t : Fin cfg0.N) (d) : (dats m 0 c).before 1 t d = Y m c t :=
  Gen.before0_1_of m (dats m 0 c) rfl (fun _ => rfl) t d
theorem before_2 (c : Dev nD) (t : Fin cfg0.N) (d) : (dats m 0 c).before 2 t d = EX m c t :=
  Gen.before0_2_of m (dats m 0 c) rfl (fun _ => rfl) t d

theorem after_0 (c : Dev nD) (t : Fin cfg0.N) : (dats m 0 c).after 0 t = X m c t := rfl
theorem after_1 (c : Dev nD) (t : Fin cfg0.N) : (dats m 0 c).after 1 t = Y m c t := rfl
theorem after_2 (c : Dev nD) (t : Fin cfg0.N) : (dats m 0 c).after 2 t = EX m c t := rfl
theorem after_3 (c : Dev nD) (t : Fin cfg0.N) : (dats m 0 c).after 3 t = CO l2 (D m c t) (EX m c t) := rfl
theorem after_4 (c : Dev nD) (t : Fin cfg0.N) : (dats m 0 c).after 4 t = pow2 l2 (RM (D m c t)) := rfl
theorem after_5 (c : Dev nD) (t : Fin cfg0.N) : (dats m 0 c).after 5 t = CT l2 (D m c t) := rfl
theorem after_6 (c : Dev nD) (t : Fin cfg0.N) : (dats m 0 c).after 6 t = ST m c t := rfl

/-- A step carries the scratch on: its own rows are its column scales, the others' as they were. -/
theorem AccOk.step {c : Dev nD} {t : Fin cfg0.N} {σ σ' : St F} (hx : σ.x = X m c t) (hy : σ.dy = Y m c t)
    (hA : AccOk m c t.val σ.acc)
    (hP : Post nl2 l2 (accRow (grid0.coords t)) (accRow_le _) (k0_cond1 (grid0.coords t) = 1#1) σ σ') :
    AccOk m c (t.val + 1) σ'.acc := by
  have hD : Cert.Swiglu.DXσ nl2 σ = D m c t := by unfold Cert.Swiglu.DXσ D; rw [hx, hy]
  intro s h1 h2 r l
  by_cases hs : s = t
  · subst hs
    have := hP.acc r l
    rw [hD] at this
    rw [← this]
    congr 2
    exact Fin.ext (congrArg (· + r.val) (accRow_eq s).symm)
  · have hne : s.val ≠ t.val := fun h => hs (Fin.ext h)
    rw [← hA s (by omega) (by omega) r l]
    refine hP.out _ _ ?_
    rw [accRow_eq]
    have := r.isLt
    show 8 * (s.val % 16) + r.val < _ ∨ _ ≤ 8 * (s.val % 16) + r.val
    omega

/-- Where the scratch is handed over it is what `ST` says. -/
theorem st_of {c : Dev nD} {t : Fin cfg0.N} {A : S128x4096.Idx → Elt F .f32} {S : S4096x128.Idx → Elt F .f32}
    (hA : AccOk m c (t.val + 1) A) (ht : 15 ≤ t.val)
    (hS : ∀ (l : Fin 4096) (r : Fin 128), S (ix2 l r) = A (ix2 r l)) : S = ST m c t := by
  funext i
  obtain ⟨l, r, rfl⟩ : ∃ (l : Fin 4096) (r : Fin 128), i = ix2 l r := ⟨i 0, i 1, eq_ix2 i⟩
  have hr := r.isLt
  rw [hS]
  refine Eq.trans ?_ (hA ⟨latest t.val (r.val / 8), Nat.lt_of_le_of_lt (Nat.sub_le _ _) t.isLt⟩
    (by unfold latest; show t.val - _ < _; omega) (by unfold latest; show _ ≤ t.val - _ + 16; omega) ⟨r.val % 8, Nat.mod_lt _ (by decide)⟩ l)
  congr 2
  refine Fin.ext ?_
  show r.val = 8 * (latest t.val (r.val / 8) % 16) + r.val % 8
  unfold latest
  omega

/-! ## The body obligation and the run -/

theorem defs₀_row (t : Fin cfg0.N) : defs₀ (F := F) .tc cfg0.body (cfg0.bodyArgs t (cfg0.slots t)) = Gen.bodyAt0 t := by
  unfold defs₀; rw [Defs.onTc_tc]

theorem leaves_6 {c : Dev nD} {t : Fin cfg0.N} {σ σ' : St F} (hst : ∃ d, σ.st = (dats m 0 c).before 6 t d)
    (hA : AccOk m c (t.val + 1) σ'.acc)
    (hP : Post nl2 l2 (accRow (grid0.coords t)) (accRow_le _) (k0_cond1 (grid0.coords t) = 1#1) σ σ') :
    owns (c : Thread nD τ) (Gen.st0_6 t) fullShare σ'.st ⊢ ((dats m 0 c).leavesExact 6 t : sProp 𝕄) := by
  have hi : cfg0.idle 6 (cfg0.grid.coords t) = !(k0_cond1 (grid0.coords t) == 1#1) := rfl
  have hf : (cfg0.win 6).flush t = (k0_cond1 (grid0.coords t) == 1#1) := flush_6 t
  unfold Dat.leavesExact
  by_cases hc : k0_cond1 (grid0.coords t) = 1#1
  · rw [hi, beq_iff_eq.mpr hc, st_of m hA (flush_late t hc) (hP.flushed hc)]
    exact .rfl
  · rw [hi, hf, beq_eq_false_iff_ne.mpr hc, hP.kept hc]
    obtain ⟨d, hd⟩ := hst
    rw [hd]
    refine (?_ : (_ : sProp 𝕄) ⊢ iprop(∃ d, owns (c : Thread nD τ) ((cfg0.win 6).stage (cfg0.slots t 6)) fullShare ((dats m 0 c).before 6 t d)))
    iintro H
    iexists d
    iexact H

theorem obligation (c : Dev nD) : BodyObligation (dats m 0 c) defs₀ Variants.none () Set.univ := by
  intro t
  rw [Gen.bigSep_W0, Gen.bigSep_W0, defs₀_row]
  simp only [before_0, before_1, before_2, after_0, after_1, after_2, after_3, after_4, after_5, after_6]
  unfold dats
  dsimp only
  iintro ⟨⟨⟨%f0, S0⟩, ⟨%f1, S1⟩, ⟨%f2, S2⟩, ⟨%f3, S3⟩, ⟨%A, %hA, S4⟩, P⟩, O, ⟨%d0, W0⟩, ⟨%d1, W1⟩, ⟨%d2, W2⟩, ⟨%d3, W3⟩, ⟨%d4, W4⟩, ⟨%d5, W5⟩, ⟨%d6, W6⟩⟩
  iapply (sound_body c Set.univ t ⟨X m c t, Y m c t, EX m c t, _, _, _, (dats m 0 c).before 6 t d6, f0, f1, f2, f3, A⟩ _)
  unfold held
  isplitl [S0 S1 S2 S3 S4 W0 W1 W2 W3 W4 W5 W6]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [S0]; · iexact S0
    isplitl [S1]; · iexact S1
    isplitl [S2]; · iexact S2
    isplitl [S3]; · iexact S3
    iexact S4
  iintro %σ' %hP ⟨W0, W1, W2, W3, W4, W5, W6, S0, S1, S2, S3, S4⟩
  have hA' := AccOk.step m rfl rfl hA hP
  have h6 := leaves_6 m ⟨d6, rfl⟩ hA' hP
  obtain ⟨hx, hy, he, hco, hsc, hct, -, -, -, -⟩ := hP
  rw [hx, hy, he, hco, hsc, hct]
  isplitl [S0 S1 S2 S3 S4 P]
  · isplitl [S0]; · iexists _; iexact S0
    isplitl [S1]; · iexists _; iexact S1
    isplitl [S2]; · iexists _; iexact S2
    isplitl [S3]; · iexists _; iexact S3
    isplitl [S4]
    · iexists σ'.acc; isplitr; · ipureintro; exact hA'
      iexact S4
    iexact P
  isplitl [O]; · iexact O
  isplitl [W0]; · iexact W0
  isplitl [W1]; · iexact W1
  isplitl [W2]; · iexact W2
  isplitl [W3]; · iexact W3
  isplitl [W4]; · iexact W4
  isplitl [W5]; · iexact W5
  iapply h6
  iexact W6

variable (ρ : Dev nD → PrngReg)

/-- The run: every buffer the pipeline writes ends at what the proof data say, the rest as the host operations left it,
    and every semaphore counter at zero. -/
theorem run_main_quiescent : θ_run defs (onTc (τ := τ) (main (F := F))) (s₀ m ρ)
    (fun r => (Pipeline.FramePost cfgs (dats m) 0 (Gen.V m)) r ∧ r.2.sem = fun _ => 0) :=
  Pipeline.θ_run_frame_track cfgs (dats m) 0 Gen.launch0 defs₀ Variants.none m ρ main
    (fun c => (obligation m c).loose) (fun c w => by fin_cases w <;> rfl) (fun _ _ => rfl) (Gen.V m) (Gen.hmain m Variants.none) (fun _ _ => rfl)
    (fun c => by
      unfold Pipeline.ΦA
      rw [Gen.scopedRest0_eq]
      unfold dats
      dsimp only
      simp only [owns_whole]
      iintro ⟨⟨S0, S1, S2, S3, %f, S4⟩, P⟩
      isplitl [S0]; · iexact S0
      isplitl [S1]; · iexact S1
      isplitl [S2]; · iexact S2
      isplitl [S3]; · iexact S3
      isplitl [S4]
      · iexists f; isplitr; · ipureintro; exact fun s h => absurd h (Nat.not_lt_zero _)
        iexact S4
      iexact P)
    (fun c => by
      unfold Pipeline.ΦA
      rw [Gen.scopedRest0_eq]
      unfold dats
      dsimp only
      simp only [owns_whole]
      iintro ⟨S0, S1, S2, S3, ⟨%f, %hf, S4⟩, P⟩
      isplitr [P]
      · isplitl [S0]; · iexact S0
        isplitl [S1]; · iexact S1
        isplitl [S2]; · iexact S2
        isplitl [S3]; · iexact S3
        iexists f; iexact S4
      iexact P)
    (fun r => (Pipeline.FramePost cfgs (dats m) 0 (Gen.V m)) r ∧ r.2.sem = fun _ => 0)

theorem run_main : θ_run defs (onTc (τ := τ) (main (F := F))) (s₀ m ρ) (Pipeline.FramePost cfgs (dats m) 0 (Gen.V m)) :=
  (θ_run defs _ _).mono (fun _ h => h.1) (run_main_quiescent m ρ)

/-- A run ends with the arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_of m ρ (dats m) (fun _ _ => rfl) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  θ_run_and (unchanged m ρ) ((θ_run defs _ _).mono (fun _ h => h.2) (run_main_quiescent m ρ))

end Cert.Kernel.Swi
-- ==== Proof.KernelIdeal.BodyEq.lean ====
/-
  THE PRINTED BODY IS THE BODY WRITTEN ONCE: operation by operation, the one pushed through by definition of the other.
-/
module

public import proofs.«01_k».proof.Proof.Gen.KernelIdeal.Frame
public import proofs.«01_k».proof.Proof.Program

@[expose] public section

noncomputable section

namespace Cert.KernelIdeal.Swi

open Idealize.ShloMosaic Idealize.ShloMosaic.TcCoe Idealize.SL.Sem
open Cert.KernelIdeal Cert.KernelIdeal.Facts₀

variable {F : FTy → Type} [FloatOps F] [Named F]
attribute [local instance] Cert.KernelIdeal.Gen.facts

theorem op_congr {E : Type → Type} {α β : Type} (e : E β) {k k' : β → Prog E α} (h : ∀ x, k x = k' x) :
    Prog.op e k = Prog.op e k' := congrArg _ (funext h)

/-- The constant of the elementwise part: -1/log 2. -/
def nl2 : F .f32 := Named.named κ "neg_log2e" 0xBFB8AA3B#32

/-- The constant of the scales: log 2. -/
def l2 : F .f32 := Named.named κ "ln2" 0x3F317218#32

/-- The first of the eight rows a step gives to its accumulated scales. -/
def accRow (i : grid0.Coords) : Nat := k0_off1 i 0

theorem accRow_le (i : grid0.Coords) : accRow i + 8 ≤ 128 := k0_off1_inb i 0

set_option maxRecDepth 16384
set_option maxHeartbeats 4000000

theorem body_eq (i : grid0.Coords) (M : Cert.Swiglu.Mems sig) (h1 : M.x.IsWhole) (h2 : M.dy.IsWhole) (h3 : M.ex.IsWhole)
  (h4 : M.co.IsWhole) (h5 : M.sc.IsWhole) (h6 : M.ct.IsWhole) (h7 : M.st.IsWhole) (h8 : M.dx.IsWhole) (h9 : M.row.IsWhole)
  (h10 : M.col.IsWhole) (h11 : M.slab.IsWhole) (h12 : M.acc.IsWhole) (g1 g2) :
    cc0_dswiglu_cast_transpose (F := F) i M.x h1 M.dy h2 M.ex h3 M.co h4 M.sc h5 M.ct h6 M.st h7 M.dx h8 M.row h9 M.col h10 M.slab h11 M.acc h12
      = Cert.Swiglu.body M nl2 l2 (accRow i) (accRow_le i) (k0_cond1 i = 1#1) g1 g2 := by
  iterate 119 (refine op_congr _ fun _ => ?_)
  as_aux_lemma =>
  iterate 119 (refine op_congr _ fun _ => ?_)
  as_aux_lemma =>
  iterate 119 (refine op_congr _ fun _ => ?_)
  as_aux_lemma =>
  iterate 119 (refine op_congr _ fun _ => ?_)
  as_aux_lemma =>
  iterate 119 (refine op_congr _ fun _ => ?_)
  as_aux_lemma =>
  iterate 119 (refine op_congr _ fun _ => ?_)
  as_aux_lemma =>
  iterate 119 (refine op_congr _ fun _ => ?_)
  as_aux_lemma =>
  iterate 119 (refine op_congr _ fun _ => ?_)
  as_aux_lemma =>
  iterate 119 (refine op_congr _ fun _ => ?_)
  as_aux_lemma =>
  iterate 119 (refine op_congr _ fun _ => ?_)
  as_aux_lemma =>
  iterate 119 (refine op_congr _ fun _ => ?_)
  as_aux_lemma =>
  iterate 119 (refine op_congr _ fun _ => ?_)
  as_aux_lemma =>
  iterate 119 (refine op_congr _ fun _ => ?_)
  as_aux_lemma =>
  iterate 119 (refine op_congr _ fun _ => ?_)
  as_aux_lemma =>
  iterate 119 (refine op_congr _ fun _ => ?_)
  as_aux_lemma =>
  iterate 119 (refine op_congr _ fun _ => ?_)
  as_aux_lemma =>
  iterate 6 (refine op_congr _ fun _ => ?_)
  iterate 56 (refine op_congr _ fun _ => ?_)
  as_aux_lemma =>
  iterate 56 (refine op_congr _ fun _ => ?_)
  as_aux_lemma =>
  iterate 56 (refine op_congr _ fun _ => ?_)
  as_aux_lemma =>
  iterate 56 (refine op_congr _ fun _ => ?_)
  as_aux_lemma =>
  by_cases h : k0_cond1 i = 1#1
  · refine (dif_pos h).trans ((?_ : _ = _).trans (if_pos h).symm)
    iterate 96 (refine op_congr _ fun _ => ?_)
    rfl
  · refine (dif_neg h).trans ((?_ : _ = _).trans (if_neg h).symm)
    rfl

end Cert.KernelIdeal.Swi
-- ==== Proof.KernelIdeal.Body.lean ====
/-
  THE STEP ON ITS BUFFERS. The facts of the schedule, and the body's rule at the buffers of step `t`.
-/
module

public import proofs.«01_k».proof.Proof.KernelIdeal.BodyEq
public import proofs.«01_k».proof.Proof.Tail
public import Idealize.ShloMosaic.Lib.Pipeline.Frame
public import Idealize.ShloMosaic.Lib.Pipeline.FrameBody

@[expose] public section

set_option maxRecDepth 16384

noncomputable section

namespace Cert.KernelIdeal.Swi

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Cert.KernelIdeal Cert.KernelIdeal.Facts₀
open Cert.Swiglu (Mems St held Runs DX CO CT RM CM pow2 Post rect2)

attribute [local instance] Cert.KernelIdeal.Gen.facts

/-! ## The schedule -/

/-- Step `t` gives rows `8 (t mod 16)` and the seven after them to its column scales. -/
theorem accRow_eq : ∀ t : Fin grid0.N, accRow (grid0.coords t) = 8 * (t.val % 16) := by decide +kernel

/-- The column scales are handed over where the program tests for it, -/
theorem flush_6 : ∀ t : Fin grid0.N, (win0 6).flush t = (k0_cond1 (grid0.coords t) == 1#1) := by decide +kernel

/-- which is after sixteen steps or more. -/
theorem flush_late : ∀ t : Fin grid0.N, k0_cond1 (grid0.coords t) = 1#1 → 15 ≤ t.val := by decide +kernel

theorem packed_co : ∀ j : Fin 16, (rect2 256 4096 256 256 0 (256 * j.val) (by omega) (by omega)).PackedRows
    (EltTy.packing .fp8e4m3) := by decide
theorem packed_ct : ∀ j : Fin 16, (rect2 4096 256 256 256 (256 * j.val) 0 (by omega) (by omega)).PackedRows
    (EltTy.packing .fp8e4m3) := by decide

/-- The last step up to `t` whose number is `k` mod sixteen. -/
def latest (t k : Nat) : Nat := t - (t + 16 - k) % 16

variable {F : FTy → Type} [FloatOps F] [Named F]

local notation "𝕄" => MT nD τ sig Unit (Elt F) ℕ (UR sig nD τ) ℕ

/-- The buffers step `t` works on. -/
abbrev Mt (t : Fin cfg0.N) : Mems sig :=
  ⟨Gen.st0_0 t, Gen.st0_1 t, Gen.st0_2 t, Gen.st0_3 t, Gen.st0_4 t, Gen.st0_5 t, Gen.st0_6 t, Memref.whole cc0_scratch0,
    Memref.whole cc0_scratch1, Memref.whole cc0_scratch2, Memref.whole cc0_scratch3, Memref.whole cc0_scratch4⟩

/-- The body at step `t`, from any contents of its buffers. -/
theorem sound_body (c : Dev nD) (E : Set ℕ) (t : Fin cfg0.N) (σ : St F) :
    Runs defs₀ c E (Mt t) (Post nl2 l2 (accRow (grid0.coords t)) (accRow_le _) (k0_cond1 (grid0.coords t) = 1#1) σ)
      (Gen.bodyAt0 t) σ := by
  have h : Gen.bodyAt0 (F := F) t = Cert.Swiglu.body (Mt t) nl2 l2 (accRow (grid0.coords t)) (accRow_le _)
      (k0_cond1 (grid0.coords t) = 1#1)
      (fun j hj => View.stores_vmem (by decide : 0 < S256x256.numel)
        ((hstage0_3 ((cfg0.slots t 3).cast nbuf0_3)).storeExact_slice rfl _ (packed_co ⟨j, hj⟩)) (fun _ => rfl))
      (fun j hj => View.stores_vmem (by decide : 0 < S256x256.numel)
        ((hstage0_5 ((cfg0.slots t 5).cast nbuf0_5)).storeExact_slice rfl _ (packed_ct ⟨j, hj⟩)) (fun _ => rfl)) :=
    body_eq (grid0.coords t) (Mt t) _ _ _ _ _ _ _ _ _ _ _ _ _ _
  rw [h]
  exact Cert.Swiglu.runs_body _

end Cert.KernelIdeal.Swi
-- ==== Proof.KernelIdeal.Run.lean ====
/-
  THE RUN. The proof data of the pipeline: what each staging buffer holds after step `t`, and what the accumulating
  scratch buffer holds between the steps — the column scales of the last sixteen steps, eight rows for each. The body
  obligation from the body's rule, and the run.
-/
module

public import proofs.«01_k».proof.Proof.KernelIdeal.Body
public import Idealize.ShloMosaic.Lib.Pipeline.Frame
public import Idealize.ShloMosaic.Lib.Pipeline.FrameBody

@[expose] public section

set_option maxRecDepth 16384

noncomputable section

namespace Cert.KernelIdeal.Swi

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Cert.KernelIdeal Cert.KernelIdeal.Facts₀
open Cert.Swiglu (Mems St held Runs DX CO CT RM CM pow2 Post rect2)

attribute [local instance] Cert.KernelIdeal.Gen.facts

variable {F : FTy → Type} [FloatOps F] [Named F]

local notation "𝕄" => MT nD τ sig Unit (Elt F) ℕ (UR sig nD τ) ℕ

variable (m : (ℓ : Loc nD τ sig) → Buf (Elt F) ℓ)

/-! ## The proof data -/

/-- Step `t`'s blocks of the two operands and of the expansion matrix. -/
def X (c : Dev nD) (t : Fin cfg0.N) : S256x4096.Idx → Elt F .bf16 := Gen.iblk m c 0 t
def Y (c : Dev nD) (t : Fin cfg0.N) : S256x2048.Idx → Elt F .bf16 := Gen.iblk m c 1 t
def EX (c : Dev nD) (t : Fin cfg0.N) : S128x4096.Idx → Elt F .bf16 := Gen.iblk m c 2 t

/-- The gradient block step `t` computes. -/
def D (c : Dev nD) (t : Fin cfg0.N) : FVec F S256x4096 .f32 := DX nl2 (X m c t) (Y m c t)

/-- What the buffer of the transposed column scales holds where it is handed over: of each residue the last step's. -/
def ST (c : Dev nD) (t : Fin cfg0.N) : S4096x128.Idx → Elt F .f32 := fun i =>
  pow2 l2 (CM (D m c ⟨latest t.val ((i 1).val / 8), Nat.lt_of_le_of_lt (Nat.sub_le _ _) t.isLt⟩))
    (ix2 (⟨(i 1).val % 8, Nat.mod_lt _ (by decide)⟩ : Fin 8) (i 0 : Fin 4096))

theorem rowLt (s : Nat) (r : Fin 8) : 8 * (s % 16) + r.val < 128 := by have := r.isLt; omega

/-- Before step `n` the accumulating scratch holds the column scales of the last sixteen steps. -/
def AccOk (c : Dev nD) (n : Nat) (A : S128x4096.Idx → Elt F .f32) : Prop :=
  ∀ s : Fin cfg0.N, s.val < n → n ≤ s.val + 16 → ∀ (r : Fin 8) (l : Fin 4096),
    A (ix2 ⟨8 * (s.val % 16) + r.val, rowLt _ _⟩ l) = pow2 l2 (CM (D m c s)) (ix2 r l)

def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => CO l2 (D m c t) (EX m c t)
    | ⟨4, _⟩ => pow2 l2 (RM (D m c t))
    | ⟨5, _⟩ => CT l2 (D m c t)
    | ⟨6, _⟩ => ST m c t
  Φ n := iprop((∃ f, owns (c : Thread nD τ) (Memref.whole cc0_scratch0) fullShare f)
    ∗ (∃ f, owns (c : Thread nD τ) (Memref.whole cc0_scratch1) fullShare f)
    ∗ (∃ f, owns (c : Thread nD τ) (Memref.whole cc0_scratch2) fullShare f)
    ∗ (∃ f, owns (c : Thread nD τ) (Memref.whole cc0_scratch3) fullShare f)
    ∗ (∃ A, ⌜AccOk m c n.val A⌝ ∗ owns (c : Thread nD τ) (Memref.whole cc0_scratch4) fullShare A)
    ∗ ∃ r, prngReg c r)
  q _ := fullShare
  owed _ := 0

theorem before_0 (c : Dev nD) (t : Fin cfg0.N) (d) : (dats m 0 c).before 0 t d = X m c t :=
  Gen.before0_0_of m (dats m 0 c) rfl (fun _ => rfl) t d
theorem before_1 (c : Dev nD) (t : Fin cfg0.N) (d) : (dats m 0 c).before 1 t d = Y m c t :=
  Gen.before0_1_of m (dats m 0 c) rfl (fun _ => rfl) t d
theorem before_2 (c : Dev nD) (t : Fin cfg0.N) (d) : (dats m 0 c).before 2 t d = EX m c t :=
  Gen.before0_2_of m (dats m 0 c) rfl (fun _ => rfl) t d

theorem after_0 (c : Dev nD) (t : Fin cfg0.N) : (dats m 0 c).after 0 t = X m c t := rfl
theorem after_1 (c : Dev nD) (t : Fin cfg0.N) : (dats m 0 c).after 1 t = Y m c t := rfl
theorem after_2 (c : Dev nD) (t : Fin cfg0.N) : (dats m 0 c).after 2 t = EX m c t := rfl
theorem after_3 (c : Dev nD) (t : Fin cfg0.N) : (dats m 0 c).after 3 t = CO l2 (D m c t) (EX m c t) := rfl
theorem after_4 (c : Dev nD) (t : Fin cfg0.N) : (dats m 0 c).after 4 t = pow2 l2 (RM (D m c t)) := rfl
theorem after_5 (c : Dev nD) (t : Fin cfg0.N) : (dats m 0 c).after 5 t = CT l2 (D m c t) := rfl
theorem after_6 (c : Dev nD) (t : Fin cfg0.N) : (dats m 0 c).after 6 t = ST m c t := rfl

/-- A step carries the scratch on: its own rows are its column scales, the others' as they were. -/
theorem AccOk.step {c : Dev nD} {t : Fin cfg0.N} {σ σ' : St F} (hx : σ.x = X m c t) (hy : σ.dy = Y m c t)
    (hA : AccOk m c t.val σ.acc)
    (hP : Post nl2 l2 (accRow (grid0.coords t)) (accRow_le _) (k0_cond1 (grid0.coords t) = 1#1) σ σ') :
    AccOk m c (t.val + 1) σ'.acc := by
  have hD : Cert.Swiglu.DXσ nl2 σ = D m c t := by unfold Cert.Swiglu.DXσ D; rw [hx, hy]
  intro s h1 h2 r l
  by_cases hs : s = t
  · subst hs
    have := hP.acc r l
    rw [hD] at this
    rw [← this]
    congr 2
    exact Fin.ext (congrArg (· + r.val) (accRow_eq s).symm)
  · have hne : s.val ≠ t.val := fun h => hs (Fin.ext h)
    rw [← hA s (by omega) (by omega) r l]
    refine hP.out _ _ ?_
    rw [accRow_eq]
    have := r.isLt
    show 8 * (s.val % 16) + r.val < _ ∨ _ ≤ 8 * (s.val % 16) + r.val
    omega

/-- Where the scratch is handed over it is what `ST` says. -/
theorem st_of {c : Dev nD} {t : Fin cfg0.N} {A : S128x4096.Idx → Elt F .f32} {S : S4096x128.Idx → Elt F .f32}
    (hA : AccOk m c (t.val + 1) A) (ht : 15 ≤ t.val)
    (hS : ∀ (l : Fin 4096) (r : Fin 128), S (ix2 l r) = A (ix2 r l)) : S = ST m c t := by
  funext i
  obtain ⟨l, r, rfl⟩ : ∃ (l : Fin 4096) (r : Fin 128), i = ix2 l r := ⟨i 0, i 1, eq_ix2 i⟩
  have hr := r.isLt
  rw [hS]
  refine Eq.trans ?_ (hA ⟨latest t.val (r.val / 8), Nat.lt_of_le_of_lt (Nat.sub_le _ _) t.isLt⟩
    (by unfold latest; show t.val - _ < _; omega) (by unfold latest; show _ ≤ t.val - _ + 16; omega) ⟨r.val % 8, Nat.mod_lt _ (by decide)⟩ l)
  congr 2
  refine Fin.ext ?_
  show r.val = 8 * (latest t.val (r.val / 8) % 16) + r.val % 8
  unfold latest
  omega

/-! ## The body obligation and the run -/

theorem defs₀_row (t : Fin cfg0.N) : defs₀ (F := F) .tc cfg0.body (cfg0.bodyArgs t (cfg0.slots t)) = Gen.bodyAt0 t := by
  unfold defs₀; rw [Defs.onTc_tc]

theorem leaves_6 {c : Dev nD} {t : Fin cfg0.N} {σ σ' : St F} (hst : ∃ d, σ.st = (dats m 0 c).before 6 t d)
    (hA : AccOk m c (t.val + 1) σ'.acc)
    (hP : Post nl2 l2 (accRow (grid0.coords t)) (accRow_le _) (k0_cond1 (grid0.coords t) = 1#1) σ σ') :
    owns (c : Thread nD τ) (Gen.st0_6 t) fullShare σ'.st ⊢ ((dats m 0 c).leavesExact 6 t : sProp 𝕄) := by
  have hi : cfg0.idle 6 (cfg0.grid.coords t) = !(k0_cond1 (grid0.coords t) == 1#1) := rfl
  have hf : (cfg0.win 6).flush t = (k0_cond1 (grid0.coords t) == 1#1) := flush_6 t
  unfold Dat.leavesExact
  by_cases hc : k0_cond1 (grid0.coords t) = 1#1
  · rw [hi, beq_iff_eq.mpr hc, st_of m hA (flush_late t hc) (hP.flushed hc)]
    exact .rfl
  · rw [hi, hf, beq_eq_false_iff_ne.mpr hc, hP.kept hc]
    obtain ⟨d, hd⟩ := hst
    rw [hd]
    refine (?_ : (_ : sProp 𝕄) ⊢ iprop(∃ d, owns (c : Thread nD τ) ((cfg0.win 6).stage (cfg0.slots t 6)) fullShare ((dats m 0 c).before 6 t d)))
    iintro H
    iexists d
    iexact H

theorem obligation (c : Dev nD) : BodyObligation (dats m 0 c) defs₀ Variants.none () Set.univ := by
  intro t
  rw [Gen.bigSep_W0, Gen.bigSep_W0, defs₀_row]
  simp only [before_0, before_1, before_2, after_0, after_1, after_2, after_3, after_4, after_5, after_6]
  unfold dats
  dsimp only
  iintro ⟨⟨⟨%f0, S0⟩, ⟨%f1, S1⟩, ⟨%f2, S2⟩, ⟨%f3, S3⟩, ⟨%A, %hA, S4⟩, P⟩, O, ⟨%d0, W0⟩, ⟨%d1, W1⟩, ⟨%d2, W2⟩, ⟨%d3, W3⟩, ⟨%d4, W4⟩, ⟨%d5, W5⟩, ⟨%d6, W6⟩⟩
  iapply (sound_body c Set.univ t ⟨X m c t, Y m c t, EX m c t, _, _, _, (dats m 0 c).before 6 t d6, f0, f1, f2, f3, A⟩ _)
  unfold held
  isplitl [S0 S1 S2 S3 S4 W0 W1 W2 W3 W4 W5 W6]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [S0]; · iexact S0
    isplitl [S1]; · iexact S1
    isplitl [S2]; · iexact S2
    isplitl [S3]; · iexact S3
    iexact S4
  iintro %σ' %hP ⟨W0, W1, W2, W3, W4, W5, W6, S0, S1, S2, S3, S4⟩
  have hA' := AccOk.step m rfl rfl hA hP
  have h6 := leaves_6 m ⟨d6, rfl⟩ hA' hP
  obtain ⟨hx, hy, he, hco, hsc, hct, -, -, -, -⟩ := hP
  rw [hx, hy, he, hco, hsc, hct]
  isplitl [S0 S1 S2 S3 S4 P]
  · isplitl [S0]; · iexists _; iexact S0
    isplitl [S1]; · iexists _; iexact S1
    isplitl [S2]; · iexists _; iexact S2
    isplitl [S3]; · iexists _; iexact S3
    isplitl [S4]
    · iexists σ'.acc; isplitr; · ipureintro; exact hA'
      iexact S4
    iexact P
  isplitl [O]; · iexact O
  isplitl [W0]; · iexact W0
  isplitl [W1]; · iexact W1
  isplitl [W2]; · iexact W2
  isplitl [W3]; · iexact W3
  isplitl [W4]; · iexact W4
  isplitl [W5]; · iexact W5
  iapply h6
  iexact W6

variable (ρ : Dev nD → PrngReg)

/-- The run: every buffer the pipeline writes ends at what the proof data say, the rest as the host operations left it,
    and every semaphore counter at zero. -/
theorem run_main_quiescent : θ_run defs (onTc (τ := τ) (main (F := F))) (s₀ m ρ)
    (fun r => (Pipeline.FramePost cfgs (dats m) 0 (Gen.V m)) r ∧ r.2.sem = fun _ => 0) :=
  Pipeline.θ_run_frame_track cfgs (dats m) 0 Gen.launch0 defs₀ Variants.none m ρ main
    (fun c => (obligation m c).loose) (fun c w => by fin_cases w <;> rfl) (fun _ _ => rfl) (Gen.V m) (Gen.hmain m Variants.none) (fun _ _ => rfl)
    (fun c => by
      unfold Pipeline.ΦA
      rw [Gen.scopedRest0_eq]
      unfold dats
      dsimp only
      simp only [owns_whole]
      iintro ⟨⟨S0, S1, S2, S3, %f, S4⟩, P⟩
      isplitl [S0]; · iexact S0
      isplitl [S1]; · iexact S1
      isplitl [S2]; · iexact S2
      isplitl [S3]; · iexact S3
      isplitl [S4]
      · iexists f; isplitr; · ipureintro; exact fun s h => absurd h (Nat.not_lt_zero _)
        iexact S4
      iexact P)
    (fun c => by
      unfold Pipeline.ΦA
      rw [Gen.scopedRest0_eq]
      unfold dats
      dsimp only
      simp only [owns_whole]
      iintro ⟨S0, S1, S2, S3, ⟨%f, %hf, S4⟩, P⟩
      isplitr [P]
      · isplitl [S0]; · iexact S0
        isplitl [S1]; · iexact S1
        isplitl [S2]; · iexact S2
        isplitl [S3]; · iexact S3
        iexists f; iexact S4
      iexact P)
    (fun r => (Pipeline.FramePost cfgs (dats m) 0 (Gen.V m)) r ∧ r.2.sem = fun _ => 0)

theorem run_main : θ_run defs (onTc (τ := τ) (main (F := F))) (s₀ m ρ) (Pipeline.FramePost cfgs (dats m) 0 (Gen.V m)) :=
  (θ_run defs _ _).mono (fun _ h => h.1) (run_main_quiescent m ρ)

/-- A run ends with the arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_of m ρ (dats m) (fun _ _ => rfl) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  θ_run_and (unchanged m ρ) ((θ_run defs _ _).mono (fun _ h => h.2) (run_main_quiescent m ρ))

end Cert.KernelIdeal.Swi
-- ==== Proof.Scalar.lean ====
/-
  THE MATHEMATICS OF ONE NUMBER over the extended reals: the exponent of a group's scale, the code of a number, the
  gradient of a gated product; and that the kernel's spellings of them — the logistic function by a power of two, the
  reciprocal scale by a division, the unit scale of an empty group by a selection, the maximum of 32 by a tree — mean these.
-/
module

public import proofs.«01_k».proof.Proof.Values
public import Idealize.ShloMosaic.Lib.ValueIdx
public import Idealize.ShloMosaic.PureOps.Ideal

@[expose] public section

noncomputable section

namespace Cert.Swiglu

open Idealize.ShloMosaic Idealize.ShloMosaic.ValueIdx

/-! ## Definitions -/

/-- `ln 2`, and the factor `-1 / ln 2`. -/
def L2 : EReal := ((Real.log 2 : ℝ) : EReal)
def NL2 : EReal := ((-((Real.log 2)⁻¹) : ℝ) : EReal)

/-- The program's constants: one, the reciprocal of the largest code, the largest code and its negation. -/
def One : EReal := Ideal.ofBits .f32 0x3F800000#32
def Rcp : EReal := Ideal.ofBits .f32 0x3B124925#32
def Top : EReal := Ideal.ofBits .f32 0x43E00000#32
def Bot : EReal := Ideal.ofBits .f32 0xC3E00000#32

/-- The exponent of the scale of a group whose largest magnitude is `a`. -/
def expo (a : EReal) : EReal :=
  if a = 0 then 0 else Ideal.liftRound Int.floor (Ideal.div (Ideal.log (a * Rcp)) L2) + One

/-- The scale, and the code of `v` in that group. -/
def scale (a : EReal) : EReal := Ideal.exp2 (expo a)
def code (v a : EReal) : EReal := min Top (max Bot (v * Ideal.exp2 (0 - expo a)))

/-- The largest magnitude of 32 numbers. -/
def amax (f : Fin 32 → EReal) : EReal := Finset.univ.sup fun s => max (f s) (-(f s))

/-- The gradients of the two halves. -/
def dg (g u y : EReal) : EReal := y * u * Ideal.logistic g * (One + g * (One - Ideal.logistic g))
def du (g y : EReal) : EReal := y * g * Ideal.logistic g

/-! ## The constants -/

theorem One_eq : One = 1 := by
  unfold One
  simp [Ideal.ofBits, Ideal.ieee, -EReal.coe_mul]; norm_num

theorem Rcp_eq : ∃ r : ℝ, r ≠ 0 ∧ Rcp = (r : EReal) := by
  refine ⟨_, ?_, by unfold Rcp; simp [Ideal.ofBits, Ideal.ieee, -EReal.coe_mul]; rfl⟩
  norm_num

theorem zero_eq : Ideal.ofBits .f32 0x00000000#32 = 0 := by simp [Ideal.ofBits, Ideal.ieee]

theorem mul_Rcp_eq_zero (a : EReal) : a * Rcp = 0 ↔ a = 0 := by
  obtain ⟨r, hr, h⟩ := Rcp_eq
  rw [h, mul_eq_zero]
  constructor
  · rintro (h | h)
    · exact h
    · exact absurd (by exact_mod_cast h) hr
  · exact .inl

/-! ## The kernel's spellings -/

theorem div_exp2 (e : EReal) : Ideal.div 1 (Ideal.exp2 e) = Ideal.exp2 (0 - e) := by
  induction e using EReal.rec with
  | bot => simp [Ideal.div]
  | top => simp [Ideal.div]
  | coe r =>
    have h : (Real.rpow 2 r : EReal) ≠ 0 := by
      have : (0 : ℝ) < Real.rpow 2 r := Real.rpow_pos_of_pos (by norm_num) r
      exact_mod_cast this.ne'
    rw [zero_sub, ← EReal.coe_neg, Ideal.exp2_coe, Ideal.exp2_coe, Ideal.div, if_neg h, one_mul, ← EReal.coe_inv]
    exact congrArg _ (Real.rpow_neg (by norm_num) r).symm

theorem exp2_NL2 (g : EReal) : Ideal.exp2 (g * NL2) = Ideal.exp (-g) := by
  have hl : 0 < Real.log 2 := Real.log_pos (by norm_num)
  have hn : -((Real.log 2)⁻¹) < 0 := neg_lt_zero.mpr (inv_pos.mpr hl)
  unfold NL2
  induction g using EReal.rec with
  | bot => rw [EReal.bot_mul_coe_of_neg hn, EReal.neg_bot]; rfl
  | top => rw [EReal.top_mul_coe_of_neg hn, EReal.neg_top]; rfl
  | coe r =>
    rw [← EReal.coe_mul, ← EReal.coe_neg, Ideal.exp2_coe, Ideal.exp_coe]
    refine congrArg _ ?_
    change (2 : ℝ) ^ (r * -(Real.log 2)⁻¹) = _
    rw [Real.rpow_def_of_pos (by norm_num)]
    congr 1
    field_simp

variable {s : Shape}

theorem pow2_ideal (m : FVec Ideal s .f32) (i : s.Idx) : pow2 (F := Ideal) L2 m i = scale (m i) := by
  change Scalar.select (Ideal.cmp .oeq (m i * Rcp) (Ideal.ofBits .f32 0x00000000#32)) One
    (Ideal.exp2 (Ideal.liftRound Int.floor (Ideal.div (Ideal.log (m i * Rcp)) L2) + One)) = _
  unfold scale expo Ideal.cmp
  rw [zero_eq]
  by_cases h : m i = 0
  · rw [if_pos h, decide_eq_true ((mul_Rcp_eq_zero _).mpr h), ← EReal.coe_zero, Ideal.exp2_coe, One_eq]
    change (1 : EReal) = ((2 : ℝ) ^ (0 : ℝ) : ℝ)
    rw [Real.rpow_zero]; rfl
  · rw [if_neg h, decide_eq_false (fun e => h ((mul_Rcp_eq_zero _).mp e))]
    rfl

theorem inv_ideal (m : FVec Ideal s .f32) (i : s.Idx) : inv (F := Ideal) (pow2 (F := Ideal) L2 m) i = Ideal.exp2 (0 - expo (m i)) := by
  change Ideal.div One (pow2 (F := Ideal) L2 m i) = _
  rw [pow2_ideal, One_eq]; exact div_exp2 _

theorem sig_ideal (g : FVec Ideal s .f32) (i : s.Idx) : sig (F := Ideal) NL2 g i = Ideal.logistic (g i) := by
  change Ideal.div 1 (One + Ideal.exp2 (g i * NL2)) = _
  rw [exp2_NL2, One_eq]; rfl

theorem dgate_ideal (g u y : FVec Ideal s .f32) (i : s.Idx) : dgate (F := Ideal) NL2 g u y i = dg (g i) (u i) (y i) := by
  change y i * u i * sig (F := Ideal) NL2 g i * (One + g i * (One - sig (F := Ideal) NL2 g i)) = _
  rw [sig_ideal]; rfl

theorem dup_ideal (g y : FVec Ideal s .f32) (i : s.Idx) : dup (F := Ideal) NL2 g y i = du (g i) (y i) := by
  change y i * g i * sig (F := Ideal) NL2 g i = _
  rw [sig_ideal]; rfl

theorem quant_ideal (v r : FVec Ideal s .f32) (i : s.Idx) : quant (F := Ideal) v r i = min Top (max Bot (v i * r i)) := rfl

theorem le_tree (m : Fin 8 → EReal) (t : Fin 8) :
    m t ≤ max (max (max (max (max (max (max (m 0) (m 1)) (m 2)) (m 3)) (m 4)) (m 5)) (m 6)) (m 7) := by
  match t with
  | 0 => simp only [le_max_iff, le_refl, true_or, or_true]
  | 1 => simp only [le_max_iff, le_refl, true_or, or_true]
  | 2 => simp only [le_max_iff, le_refl, true_or, or_true]
  | 3 => simp only [le_max_iff, le_refl, true_or, or_true]
  | 4 => simp only [le_max_iff, le_refl, true_or, or_true]
  | 5 => simp only [le_max_iff, le_refl, true_or, or_true]
  | 6 => simp only [le_max_iff, le_refl, true_or, or_true]
  | 7 => simp only [le_max_iff, le_refl, true_or, or_true]

/-- The tree of maxima is the maximum. -/
theorem fold32_ideal (f : Fin 32 → EReal) : fold32 (F := Ideal) (fun s => max (f s) (-(f s))) = amax f := by
  generalize hp : (fun s => max (f s) (-(f s))) = p
  have e : amax f = Finset.univ.sup p := by rw [← hp]; rfl
  rw [e]
  have hm : ∀ a b : EReal, mx (F := Ideal) a b = max a b := fun _ _ => rfl
  refine le_antisymm ?_ (Finset.sup_le fun s _ => ?_)
  · unfold fold32
    simp only [hm, max_le_iff]
    refine ⟨⟨⟨⟨⟨⟨⟨?_, ?_⟩, ?_⟩, ?_⟩, ?_⟩, ?_⟩, ?_⟩, ?_⟩ <;>
      exact ⟨⟨⟨Finset.le_sup (Finset.mem_univ _), Finset.le_sup (Finset.mem_univ _)⟩, Finset.le_sup (Finset.mem_univ _)⟩, Finset.le_sup (Finset.mem_univ _)⟩
  · refine le_trans ?_ (le_tree (fun t => max (max (max (p ⟨t.val, by omega⟩) (p ⟨8 + t.val, by omega⟩)) (p ⟨16 + t.val, by omega⟩))
      (p ⟨24 + t.val, by omega⟩)) ⟨s.val % 8, Nat.mod_lt _ (by decide)⟩)
    have hs : s.val / 8 = 0 ∨ s.val / 8 = 1 ∨ s.val / 8 = 2 ∨ s.val / 8 = 3 := by omega
    rcases hs with h | h | h | h
    · exact le_trans (le_trans (le_trans (le_of_eq (congrArg p (Fin.ext (by show s.val = s.val % 8; omega)))) (le_max_left _ _)) (le_max_left _ _)) (le_max_left _ _)
    · exact le_trans (le_trans (le_trans (le_of_eq (congrArg p (Fin.ext (by show s.val = 8 + s.val % 8; omega)))) (le_max_right _ _)) (le_max_left _ _)) (le_max_left _ _)
    · exact le_trans (le_trans (le_of_eq (congrArg p (Fin.ext (by show s.val = 16 + s.val % 8; omega)))) (le_max_right _ _)) (le_max_left _ _)
    · exact le_trans (le_of_eq (congrArg p (Fin.ext (by show s.val = 24 + s.val % 8; omega)))) (le_max_right _ _)

end Cert.Swiglu

end
-- ==== Proof.Block.lean ====
/-
  ONE BLOCK OF ROWS over the extended reals: the block's gradient, its largest magnitudes, its scales and codes, each read
  at an index. The product with the 0/1 matrix that repeats every group's reciprocal scale over the group's columns is that
  repetition.
-/
module

public import proofs.«01_k».proof.Proof.Scalar
public import Idealize.ShloMosaic.Lib.MatmulPlain

@[expose] public section

noncomputable section

namespace Cert.Swiglu

open Idealize.ShloMosaic Idealize.ShloMosaic.ValueIdx

/-- The gradient of an array of rows: gate and other half side by side in `X`, the incoming gradient in `Y`. -/
def Gr {R : Nat} (X : (⟨2, ![R, 4096]⟩ : Shape).Idx → EReal) (Y : (⟨2, ![R, 2048]⟩ : Shape).Idx → EReal) (r : Fin R) (c : Fin 4096) : EReal :=
  if h : c.val < 2048 then dg (X (ix2 r c)) (X (ix2 r ⟨2048 + c.val, by omega⟩)) (Y (ix2 r ⟨c.val, h⟩))
  else du (X (ix2 r ⟨c.val - 2048, by omega⟩)) (Y (ix2 r ⟨c.val - 2048, by omega⟩))

theorem DX_ideal (X : S256x4096.Idx → Elt Ideal .bf16) (Y : S256x2048.Idx → Elt Ideal .bf16) (r : Fin 256) (c : Fin 4096) :
    DX (F := Ideal) NL2 X Y (ix2 r c) = Gr (R := 256) X Y r c := by
  unfold DX Gr
  by_cases h : c.val < 2048
  · rw [dif_pos h, dif_pos h, dgate_ideal]; rfl
  · rw [dif_neg h, dif_neg h, dup_ideal]; rfl

/-- The largest magnitude of a group of 32 columns of a row, and of 32 rows of a column. -/
def rowMax {R W : Nat} (D : Fin R → Fin W → EReal) (r : Fin R) (g : Nat) (h : 32 * g + 32 ≤ W) : EReal :=
  amax fun s => D r ⟨32 * g + s.val, Nat.lt_of_lt_of_le (Nat.add_lt_add_left s.isLt _) h⟩

variable (D : FVec Ideal S256x4096 .f32)

theorem RM_ideal (r : Fin 256) (g : Fin 128) :
    RM D (ix2 r g) = rowMax (fun r c => D (ix2 r c)) r g.val (by omega) :=
  fold32_ideal fun s => D (ix2 r ⟨32 * g.val + s.val, by omega⟩)

theorem CM_ideal (q : Fin 8) (c : Fin 4096) :
    CM D (ix2 q c) = rowMax (fun c r => D (ix2 r c)) c q.val (by omega) :=
  fold32_ideal fun s => D (ix2 ⟨32 * q.val + s.val, by omega⟩ c)

/-- The matrix whose column `c` has its one in row `c / 32`. -/
def Repeats (ex : S128x4096.Idx → EReal) : Prop :=
  ∀ (k : Fin 128) (c : Fin 4096), ex (ix2 k c) = if k.val = c.val / 32 then 1 else 0

theorem mul_repeats (v : S256x128.Idx → EReal) {ex : S128x4096.Idx → EReal} (hex : Repeats ex) (j : Nat) (hj : j < 16) (r c : Fin 256) :
    matmul (F := Ideal) (φ₁ := .bf16) (φ₂ := .bf16) dims none v (cols j hj ex)
      (constant S256x256 .f32 0x00000000#32) (ix2 r c) = v (ix2 r ⟨(256 * j + c.val) / 32, by omega⟩) := by
  refine (Ideal.matmul_plain_apply (φ₁ := .bf16) (φ₂ := .bf16) none v (cols j hj ex)
    (constant S256x256 .f32 0x00000000#32) r c).trans ?_
  have h0 : constant (F := Ideal) S256x256 .f32 0x00000000#32 (ix2 r c) = 0 := zero_eq
  rw [h0, zero_add]
  have hc : ∀ k : Fin 128, cols j hj ex (ix2 k c) = if k = ⟨(256 * j + c.val) / 32, by omega⟩ then 1 else 0 := fun k =>
    (hex k ⟨256 * j + c.val, by omega⟩).trans (by simp only [Fin.ext_iff])
  refine (Finset.sum_congr rfl fun k _ => congrArg (v (ix2 r k) * ·) (hc k)).trans ?_
  simp only [mul_ite, mul_one, mul_zero, Finset.sum_ite_eq', Finset.mem_univ, if_true]

theorem CO_ideal {ex : S128x4096.Idx → EReal} (hex : Repeats ex) (r : Fin 256) (c : Fin 4096) :
    CO (F := Ideal) L2 D ex (ix2 r c)
      = code (D (ix2 r c)) (rowMax (fun r c => D (ix2 r c)) r (c.val / 32) (by omega)) := by
  have hc : 256 * (c.val / 256) + c.val % 256 = c.val := Nat.div_add_mod _ _
  change quant (F := Ideal) _ _ (ix2 r ⟨c.val % 256, _⟩) = _
  rw [quant_ideal]
  have e₁ : cols (c.val / 256) (by omega) D (ix2 r ⟨c.val % 256, by omega⟩) = D (ix2 r c) :=
    congrArg (fun x => D (ix2 r x)) (Fin.ext hc)
  have e₂ : matmul (F := Ideal) (φ₁ := .bf16) (φ₂ := .bf16) dims none (IR L2 D) (cols (c.val / 256) (by omega) ex)
      (constant S256x256 .f32 0x00000000#32) (ix2 r ⟨c.val % 256, by omega⟩)
      = Ideal.exp2 (0 - expo (rowMax (fun r c => D (ix2 r c)) r (c.val / 32) (by omega))) := by
    rw [mul_repeats (IR L2 D) hex (c.val / 256) (by omega) r ⟨c.val % 256, by omega⟩]
    have hg : (⟨(256 * (c.val / 256) + c.val % 256) / 32, by omega⟩ : Fin 128) = ⟨c.val / 32, by omega⟩ := Fin.ext (congrArg (· / 32) hc)
    change inv (F := Ideal) (pow2 (F := Ideal) L2 (RM D)) (ix2 r ⟨(256 * (c.val / 256) + c.val % 256) / 32, by omega⟩) = _
    rw [hg, inv_ideal, RM_ideal]
  exact congrArg₂ (fun a b => min Top (max Bot (a * b))) e₁ e₂

theorem CT_ideal (c : Fin 4096) (r : Fin 256) :
    CT (F := Ideal) L2 D (ix2 c r) = code (D (ix2 r c)) (rowMax (fun c r => D (ix2 r c)) c (r.val / 32) (by omega)) := by
  change quant (F := Ideal) _ _ (ix2 r c) = _
  rw [quant_ideal]
  refine congrArg (fun b => min Top (max Bot (D (ix2 r c) * b))) ?_
  refine (inv_ideal (CM D) _).trans ?_
  exact congrArg (fun a => Ideal.exp2 (0 - expo a)) (CM_ideal D ⟨r.val / 32, by omega⟩ c)

theorem RS_ideal (r : Fin 256) (g : Fin 128) :
    pow2 (F := Ideal) L2 (RM D) (ix2 r g) = scale (rowMax (fun r c => D (ix2 r c)) r g.val (by omega)) := by
  rw [pow2_ideal, RM_ideal]

theorem CS_ideal (q : Fin 8) (c : Fin 4096) :
    pow2 (F := Ideal) L2 (CM D) (ix2 q c) = scale (rowMax (fun c r => D (ix2 r c)) c q.val (by omega)) := by
  rw [pow2_ideal, CM_ideal]

end Cert.Swiglu

end
-- ==== Proof.Expand.lean ====
/-
  WHAT THE HOST HANDS THE KERNEL: the two operands with their leading axes merged, and the 0/1 matrix whose column `c` has
  its one in row `c / 32`.
-/
module

public import proofs.«01_k».proof.Proof.KernelIdeal.Run
public import proofs.«01_k».proof.Proof.Block
public import Idealize.ShloMosaic.Lib.Claim
public import Idealize.ShloMosaic.Lib.Pipeline.ValueKit
public import Idealize.ShloMosaic.Lib.Pointwise

@[expose] public section

noncomputable section

namespace Cert.KernelIdeal.Swi

open Idealize.ShloMosaic Idealize.ShloMosaic.TcCoe Idealize.ShloMosaic.ValueIdx
open Cert.KernelIdeal Cert.KernelIdeal.Facts₀

attribute [local instance] Cert.KernelIdeal.Gen.facts

variable (m : (ℓ : Loc nD τ sig) → Buf (Elt Ideal) ℓ)

/-- The first operand as the pipeline finds it. -/
theorem V_x (c : Dev nD) : Gen.V m c main_v5 = shapeCast S26624x4096 (m ((c : Thread nD τ).loc main_arg0)) shapeCasts_S26x1024x4096_S26624x4096 := by
  entry_read
  rfl

/-- The second. -/
theorem V_y (c : Dev nD) : Gen.V m c main_v6 = shapeCast S26624x2048 (m ((c : Thread nD τ).loc main_arg1)) shapeCasts_S26x1024x2048_S26624x2048 := by
  entry_read
  rfl

/-- The quotient rounded down, as the host spells it: the quotient rounded toward zero, less one where the signs differ and
    the remainder is not zero. -/
def floorDiv {s : Shape} (j d zero one : IVec s 32) : IVec s 32 :=
  select (andi (cmpi .ne (signi j) (signi d)) (cmpi .ne (Host.remsi j d) zero)) (subi (Host.divsi j d) one) (Host.divsi j d)

theorem floorDiv_apply {s : Shape} (j d zero one : IVec s 32) (i : s.Idx) :
    floorDiv j d zero one i = floorDiv (s := S_) (fun _ => j i) (fun _ => d i) (fun _ => zero i) (fun _ => one i) (fun a => a.elim0) := rfl

theorem floorDiv_32 : ∀ l : Fin 4096, floorDiv (s := S_) (fun _ => BitVec.ofNat 32 l.val) (fun _ => 32#32) (fun _ => 0#32) (fun _ => 1#32) (fun a => a.elim0)
    = BitVec.ofNat 32 (l.val / 32) := by decide +kernel

theorem V_expand (c : Dev nD) : Gen.V m c main_v4 = uitofp (F := Ideal) .bf16 (cmpi .eq (floorDiv (iotaInDim S128x4096 32 1) (fun _ => 32#32) (fun _ => 0#32) (fun _ => 1#32))
    (iotaInDim S128x4096 32 0)) := rfl

/-- The 0/1 matrix: column `l` has its one in row `l / 32`. -/
theorem V_ex (c : Dev nD) (k : Fin 128) (l : Fin 4096) : Gen.V m c main_v4 (ValueIdx.ix2 k l) = if k.val = l.val / 32 then (1 : EReal) else 0 := by
  rw [V_expand]
  have hq : floorDiv (iotaInDim S128x4096 32 1) (fun _ => 32#32) (fun _ => 0#32) (fun _ => 1#32) (ValueIdx.ix2 k l) = BitVec.ofNat 32 (l.val / 32) :=
    (floorDiv_apply _ _ _ _ _).trans (floorDiv_32 l)
  change ((IntOp.cmpi .eq (floorDiv (iotaInDim S128x4096 32 1) (fun _ => 32#32) (fun _ => 0#32) (fun _ => 1#32) (ValueIdx.ix2 k l)) (BitVec.ofNat 32 k.val)).toNat : EReal) = _
  rw [hq]
  by_cases h : k.val = l.val / 32
  · rw [if_pos h, h]
    simp [IntOp.cmpi]
  · have hne : BitVec.ofNat 32 (l.val / 32) ≠ BitVec.ofNat 32 k.val := fun e => h (by
      have := congrArg BitVec.toNat e
      simp only [BitVec.toNat_ofNat] at this
      omega)
    rw [if_neg h]
    simp [IntOp.cmpi, hne]

/-- The kernel's 0/1 block repeats each group's number over the group, at every step. -/
theorem EX_repeats (c : Dev nD) (t : Fin cfg0.N) : Swiglu.Repeats (EX m c t) := by
  intro k l
  have e : ∀ t : Fin cfg0.N, win0_2.index t = ![0, 0] := (by decide +kernel : ∀ t : Fin grid0.N, _)
  refine Eq.trans ?_ (V_ex m c k l)
  show Gen.iblk m c 2 t (ValueIdx.ix2 k l) = _
  blk_ext [Gen.iblk, e]

end Cert.KernelIdeal.Swi

end
-- ==== Proof.Results.lean ====
/-
  THE FOUR RESULTS as formulas of the gradient, an array of rows: codes and scales of every row's groups of 32, and codes and
  scales of every column's, the latter two transposed.
-/
module

public import proofs.«01_k».proof.Proof.Block

@[expose] public section

noncomputable section

namespace Cert.Swiglu

open Idealize.ShloMosaic Idealize.ShloMosaic.ValueIdx

theorem rowMax_congr {R W : Nat} {D D' : Fin R → Fin W → EReal} (h : ∀ r c, D r c = D' r c) (r : Fin R) (g : Nat) (hg : 32 * g + 32 ≤ W) :
    rowMax D r g hg = rowMax D' r g hg := congrArg (fun D => rowMax D r g hg) (funext fun r => funext fun c => h r c)

theorem group_le {W n : Nat} (hW : W = 32 * n) (g : Fin n) : 32 * g.val + 32 ≤ W := by omega

theorem group_of_le {W n : Nat} (hW : W = 32 * n) (c : Fin W) : 32 * (c.val / 32) + 32 ≤ W := by omega

variable (G : Fin 26624 → Fin 4096 → EReal)

/-- The codes of the rows, at row `r` and column `c`; the scales of the rows, at row `r` and group `g`. -/
def resCodes (r : Fin 26624) (c : Fin 4096) : EReal := code (G r c) (rowMax G r (c.val / 32) (group_of_le (n := 128) rfl c))
def resScales (r : Fin 26624) (g : Fin 128) : EReal := scale (rowMax G r g.val (group_le (n := 128) rfl g))

/-- The codes of the columns, at column `c` and row `r`; the scales of the columns, at column `c` and group `k`. -/
def resCodesT (c : Fin 4096) (r : Fin 26624) : EReal :=
  code (G r c) (rowMax (fun c r => G r c) c (r.val / 32) (group_of_le (n := 832) rfl r))
def resScalesT (c : Fin 4096) (k : Fin 832) : EReal := scale (rowMax (fun c r => G r c) c k.val (group_le (n := 832) rfl k))

end Cert.Swiglu

end
-- ==== Proof.Arrays.lean ====
/-
  WHAT THE KERNEL LEAVES IN ITS FOUR RESULT ARRAYS, over the extended reals: the blocks put together are the formulas of
  Results.lean at the gradient of all rows.
-/
module

public import proofs.«01_k».proof.Proof.Expand
public import proofs.«01_k».proof.Proof.Results

@[expose] public section

set_option maxRecDepth 16384

noncomputable section

namespace Cert.KernelIdeal.Swi

open Idealize.ShloMosaic Idealize.ShloMosaic.TcCoe
open Cert.KernelIdeal
open Cert.Swiglu

attribute [local instance] Cert.KernelIdeal.Gen.facts

variable (m : (ℓ : Loc nD τ sig) → Buf (Elt Ideal) ℓ)

/-- The gradient of all rows. -/
def GG (c : Dev nD) : Fin 26624 → Fin 4096 → EReal := Gr (R := 26624) (Gen.V m c main_v5) (Gen.V m c main_v6)

theorem row_lt (t : Fin cfg0.N) (r : Fin 256) : 256 * t.val + r.val < 26624 := by
  have h : t.val < 104 := t.isLt
  omega

theorem X_apply (c : Dev nD) (t : Fin cfg0.N) (r : Fin 256) (l : Fin 4096) :
    X m c t (ValueIdx.ix2 r l) = Gen.V m c main_v5 (ValueIdx.ix2 (⟨256 * t.val + r.val, row_lt t r⟩ : Fin 26624) l) := by
  have e : ∀ t : Fin cfg0.N, win0_0.index t = ![t.val, 0] := (by decide +kernel : ∀ t : Fin grid0.N, _)
  show Gen.iblk m c 0 t (ValueIdx.ix2 r l) = _
  blk_ext [Gen.iblk, e]
  show t.val * 256 + r.val = 256 * t.val + r.val
  omega

theorem Y_apply (c : Dev nD) (t : Fin cfg0.N) (r : Fin 256) (l : Fin 2048) :
    Y m c t (ValueIdx.ix2 r l) = Gen.V m c main_v6 (ValueIdx.ix2 (⟨256 * t.val + r.val, row_lt t r⟩ : Fin 26624) l) := by
  have e : ∀ t : Fin cfg0.N, win0_1.index t = ![t.val, 0] := (by decide +kernel : ∀ t : Fin grid0.N, _)
  show Gen.iblk m c 1 t (ValueIdx.ix2 r l) = _
  blk_ext [Gen.iblk, e]
  show t.val * 256 + r.val = 256 * t.val + r.val
  omega

/-- A step's block of the gradient is its 256 rows of the whole. -/
theorem D_apply (c : Dev nD) (t : Fin cfg0.N) (r : Fin 256) (l : Fin 4096) :
    D m c t (ValueIdx.ix2 r l) = GG m c ⟨256 * t.val + r.val, row_lt t r⟩ l := by
  refine (DX_ideal (X m c t) (Y m c t) r l).trans ?_
  unfold GG Gr
  simp only [X_apply, Y_apply]

/-- The largest magnitude of a group of a row, and of a group of a column. -/
theorem rowMax_row (c : Dev nD) (t : Fin cfg0.N) (r : Fin 256) (g : Nat) (hg : 32 * g + 32 ≤ 4096) :
    rowMax (fun r l => D m c t (ValueIdx.ix2 r l)) r g hg = rowMax (GG m c) ⟨256 * t.val + r.val, row_lt t r⟩ g hg :=
  congrArg amax (funext fun s => D_apply m c t r _)

theorem rowMax_col (c : Dev nD) (t : Fin cfg0.N) (l : Fin 4096) (q k : Nat) (hq : 32 * q + 32 ≤ 256) (hk : 32 * k + 32 ≤ 26624)
    (h : k = 8 * t.val + q) :
    rowMax (fun l r => D m c t (ValueIdx.ix2 r l)) l q hq = rowMax (fun l r => GG m c r l) l k hk := by
  subst h
  refine congrArg amax (funext fun s => (D_apply m c t _ l).trans (congrArg (fun r => GG m c r l) (Fin.ext ?_)))
  show 256 * t.val + (32 * q + s.val) = 32 * (8 * t.val + q) + s.val
  omega

/-! ## A step's four blocks -/

theorem co_block (c : Dev nD) (t : Fin cfg0.N) (r : Fin 256) (l : Fin 4096) :
    CO (F := Ideal) l2 (D m c t) (EX m c t) (ValueIdx.ix2 r l) = resCodes (GG m c) ⟨256 * t.val + r.val, row_lt t r⟩ l := by
  refine (CO_ideal (D m c t) (EX_repeats m c t) r l).trans ?_
  unfold resCodes
  rw [D_apply, rowMax_row]

theorem sc_block (c : Dev nD) (t : Fin cfg0.N) (r : Fin 256) (g : Fin 128) :
    pow2 (F := Ideal) l2 (RM (D m c t)) (ValueIdx.ix2 r g) = resScales (GG m c) ⟨256 * t.val + r.val, row_lt t r⟩ g := by
  refine (RS_ideal (D m c t) r g).trans ?_
  unfold resScales
  rw [rowMax_row]

theorem ct_block (c : Dev nD) (t : Fin cfg0.N) (l : Fin 4096) (r : Fin 256) :
    CT (F := Ideal) l2 (D m c t) (ValueIdx.ix2 l r) = resCodesT (GG m c) l ⟨256 * t.val + r.val, row_lt t r⟩ := by
  refine (CT_ideal (D m c t) l r).trans ?_
  unfold resCodesT
  rw [D_apply, rowMax_col m c t l (r.val / 32) ((256 * t.val + r.val) / 32) _ (group_of_le (W := 26624) (n := 832) rfl ⟨256 * t.val + r.val, row_lt t r⟩) (by omega)]

theorem cs_block (c : Dev nD) (t : Fin cfg0.N) (q : Fin 8) (l : Fin 4096) (k : Fin 832) (h : k.val = 8 * t.val + q.val) :
    pow2 (F := Ideal) l2 (CM (D m c t)) (ValueIdx.ix2 q l) = resScalesT (GG m c) l k := by
  refine (CS_ideal (D m c t) q l).trans ?_
  unfold resScalesT
  rw [rowMax_col m c t l q.val k.val _ (group_le (n := 832) rfl k) h]

/-! ## The arrays -/

theorem co_array (c : Dev nD) : (dats m 0 c).arrAt 3 cfg0.N = fun i => resCodes (GG m c) (i 0) (i 1) := by
  have e : ∀ t : Fin cfg0.N, win0_3.index t = ![t.val, 0] := (by decide +kernel : ∀ t : Fin grid0.N, _)
  refine (dats m 0 c).arrAt_eq_of_covers 3 _ (by decide +kernel) fun t hf y => ?_
  blk_simp [e]
  rw [after_3]
  refine (congrArg (CO (F := Ideal) l2 (D m c t) (EX m c t)) (ValueIdx.eq_ix2 (n0 := 256) (n1 := 4096) y)).trans ((co_block m c t (y 0) (y 1)).trans ?_)
  refine congrArg₂ (resCodes (GG m c)) (Fin.ext ?_) (Fin.ext ?_) <;> blk_simp [e]
  exact congrArg (· + _) (Nat.mul_comm _ _)

theorem sc_array (c : Dev nD) : (dats m 0 c).arrAt 4 cfg0.N = fun i => resScales (GG m c) (i 0) (i 1) := by
  have e : ∀ t : Fin cfg0.N, win0_4.index t = ![t.val, 0] := (by decide +kernel : ∀ t : Fin grid0.N, _)
  refine (dats m 0 c).arrAt_eq_of_covers 4 _ (by decide +kernel) fun t hf y => ?_
  blk_simp [e]
  rw [after_4]
  refine (congrArg (pow2 (F := Ideal) l2 (RM (D m c t))) (ValueIdx.eq_ix2 (n0 := 256) (n1 := 128) y)).trans ((sc_block m c t (y 0) (y 1)).trans ?_)
  refine congrArg₂ (resScales (GG m c)) (Fin.ext ?_) (Fin.ext ?_) <;> blk_simp [e]
  exact congrArg (· + _) (Nat.mul_comm _ _)

theorem ct_array (c : Dev nD) : (dats m 0 c).arrAt 5 cfg0.N = fun i => resCodesT (GG m c) (i 0) (i 1) := by
  have e : ∀ t : Fin cfg0.N, win0_5.index t = ![0, t.val] := (by decide +kernel : ∀ t : Fin grid0.N, _)
  refine (dats m 0 c).arrAt_eq_of_covers 5 _ (by decide +kernel) fun t hf y => ?_
  blk_simp [e]
  rw [after_5]
  refine (congrArg (CT (F := Ideal) l2 (D m c t)) (ValueIdx.eq_ix2 (n0 := 4096) (n1 := 256) y)).trans ((ct_block m c t (y 0) (y 1)).trans ?_)
  refine congrArg₂ (resCodesT (GG m c)) (Fin.ext ?_) (Fin.ext ?_) <;> blk_simp [e]
  exact congrArg (· + _) (Nat.mul_comm _ _)

/-- The step whose column scales stand at a block's column when the block is handed over. -/
theorem latest_eq (n y : Nat) (h : n % 16 = 15 ∧ y < 128 ∨ n = 103 ∧ y < 64) :
    8 * latest n (y / 8) + y % 8 = 128 * (n / 16) + y := by
  unfold latest
  omega

theorem st_array (c : Dev nD) : (dats m 0 c).arrAt 6 cfg0.N = fun i => resScalesT (GG m c) (i 0) (i 1) := by
  have e : ∀ t : Fin cfg0.N, win0_6.index t = ![0, t.val / 16] := (by decide +kernel : ∀ t : Fin grid0.N, _)
  have hfl : ∀ t : Fin cfg0.N, (cfg0.win 6).flush t = true →
      t.val % 16 = 15 ∧ ((cfg0.win 6).xblock (cfg0.grid.coords t)).size 1 = 128 ∨ t.val = 103 ∧ ((cfg0.win 6).xblock (cfg0.grid.coords t)).size 1 = 64 :=
    (by decide +kernel : ∀ t : Fin grid0.N, _)
  refine (dats m 0 c).arrAt_eq_of_covers 6 _ (by decide +kernel) fun t hf y => ?_
  blk_simp [e]
  rw [after_6]
  unfold ST
  have hy : (y 1).val < ((cfg0.win 6).xblock (cfg0.grid.coords t)).size 1 := (y 1).isLt
  have hl := latest_eq t.val (y 1).val (by
    rcases hfl t hf with h | h
    · exact .inl ⟨h.1, h.2 ▸ hy⟩
    · exact .inr ⟨h.1, h.2 ▸ hy⟩)
  refine (cs_block m c _ _ _ ((win0_6.blk t).view.emb y 1) ?_).trans ?_
  · refine Eq.trans ?_ hl.symm
    blk_simp [e]
    rw [Nat.mul_comm]
  · refine congrArg₂ (resScalesT (GG m c)) (Fin.ext ?_) rfl
    blk_simp [e]

end Cert.KernelIdeal.Swi

end
-- ==== Proof.Grouped.lean ====
/-
  THE PLAIN QUANTISER over the extended reals, read at an index: an array cut into groups of 32 along its rows, every
  group's largest magnitude, its exponent, and its codes back in the array's own shape. Stated for an array of any number
  of rows and groups, since it is used once on the gradient and once on its transpose.
-/
module

public import proofs.«01_k».proof.Proof.Block
public import Idealize.ShloMosaic.PureOps.Ideal.Laws

@[expose] public section

noncomputable section

namespace Cert.Swiglu

open Idealize.ShloMosaic Idealize.ShloMosaic.ValueIdx

theorem negInf_eq : FloatOps.ofBits (F := Ideal) .f32 0xFF800000#32 = (⊥ : EReal) := by
  show Ideal.ofBits .f32 0xFF800000#32 = ⊥
  simp [Ideal.ofBits, Ideal.ieee]

variable {R W n : Nat}

/-- An array cut into groups of 32 along its rows, read at an index. -/
theorem cut_apply {β : Type} (hW : W = 32 * n) (v : (⟨2, ![R, W]⟩ : Shape).Idx → β)
    (hc : (⟨2, ![R, W]⟩ : Shape).ShapeCasts ⟨3, ![R, n, 32]⟩) (r : Fin R) (g : Fin n) (s : Fin 32) :
    shapeCast ⟨3, ![R, n, 32]⟩ v hc (ix3 r g s) = v (ix2 r ⟨32 * g.val + s.val, by omega⟩) := by
  refine shapeCast_apply v hc _ _ ?_
  rw [Shape.rowMajor_val_two, Shape.rowMajor_val_three]
  subst hW
  show r.val * (32 * n) + (32 * g.val + s.val) = (r.val * n + g.val) * 32 + s.val
  ring

/-- The groups of 32 laid side by side again, read at an index. -/
theorem join_apply {β : Type} (hW : W = 32 * n) (v : (⟨3, ![R, n, 32]⟩ : Shape).Idx → β)
    (hc : (⟨3, ![R, n, 32]⟩ : Shape).ShapeCasts ⟨2, ![R, W]⟩) (r : Fin R) (c : Fin W) :
    shapeCast ⟨2, ![R, W]⟩ v hc (ix2 r c) = v (ix3 r ⟨c.val / 32, by omega⟩ ⟨c.val % 32, by omega⟩) := by
  refine shapeCast_apply v hc _ _ ?_
  rw [Shape.rowMajor_val_two, Shape.rowMajor_val_three]
  subst hW
  show (r.val * n + c.val / 32) * 32 + c.val % 32 = r.val * (32 * n) + c.val
  have := Nat.div_add_mod c.val 32
  calc (r.val * n + c.val / 32) * 32 + c.val % 32 = r.val * (32 * n) + (32 * (c.val / 32) + c.val % 32) := by ring
    _ = _ := by rw [this]

/-- Every group's largest magnitude. -/
theorem groupMax (hW : W = 32 * n) (G : FVec Ideal ⟨2, ![R, W]⟩ .f32)
    (hc : (⟨2, ![R, W]⟩ : Shape).ShapeCasts ⟨3, ![R, n, 32]⟩) (hr : (⟨3, ![R, n, 32]⟩ : Shape).Reduces [2] ⟨2, ![R, n]⟩)
    (hφ : FTy.f32 = .f32 ∨ FTy.f32 = .bf16) (hacc : (0xFF800000#32 : BitVec 32) = FKind.maximumf.neutral .f32 hφ) (r : Fin R) (g : Fin n) :
    multiReduction .maximumf [2] ⟨2, ![R, n]⟩ (shapeCast ⟨3, ![R, n, 32]⟩ (absf G) hc) 0xFF800000#32 hr hφ hacc (ix2 r g)
      = rowMax (fun r c => G (ix2 r c)) r g.val (by omega) := by
  rw [Ideal.multiReduction_maximumf_single, negInf_eq]
  unfold rowMax amax Finset.sup
  refine Finset.fold_congr fun (s : Fin 32) _ => ?_
  refine Eq.trans ?_ (cut_apply hW (absf G) hc r g s)
  rfl

/-- The exponent, spelt operation by operation. -/
theorem expo_apply {s : Shape} (a : FVec Ideal s .f32) (ln2 : EReal) (hl : ln2 = L2) (i : s.Idx) :
    select (cmpf .oeq a (broadcast s (Scalar.ofBits .f32 0x00000000#32))) (broadcast s (Scalar.ofBits .f32 0x00000000#32))
      (addf (floor (divf (log (mulf a (broadcast s (Scalar.ofBits .f32 0x3B124925#32)))) (broadcast s (ln2 : Ideal .f32))))
        (broadcast s (Scalar.ofBits .f32 0x3F800000#32))) i = expo (a i) := by
  subst hl
  change Scalar.select (Ideal.cmp .oeq (a i) (Ideal.ofBits .f32 0x00000000#32)) (Ideal.ofBits .f32 0x00000000#32)
    (Ideal.liftRound Int.floor (Ideal.div (Ideal.log (a i * Rcp)) L2) + One) = _
  unfold expo Ideal.cmp
  rw [zero_eq]
  by_cases h : a i = 0
  · rw [if_pos h, decide_eq_true h]; rfl
  · rw [if_neg h, decide_eq_false h]; rfl

/-- The codes, spelt operation by operation. -/
theorem code_apply (hW : W = 32 * n) (G : FVec Ideal ⟨2, ![R, W]⟩ .f32) (E : FVec Ideal ⟨2, ![R, n]⟩ .f32)
    (hc : (⟨2, ![R, W]⟩ : Shape).ShapeCasts ⟨3, ![R, n, 32]⟩) (h1 : (⟨2, ![R, n]⟩ : Shape).ShapeCasts ⟨3, ![R, n, 1]⟩)
    (hb : (⟨3, ![R, n, 1]⟩ : Shape).Broadcasts ⟨3, ![R, n, 32]⟩) (h2 : (⟨3, ![R, n, 32]⟩ : Shape).ShapeCasts ⟨2, ![R, W]⟩)
    (ht : FTy.fp8e4m3.bits < FTy.f32.bits) (r : Fin R) (c : Fin W) :
    shapeCast ⟨2, ![R, W]⟩ (truncf .fp8e4m3 (minimumf (broadcast _ (Scalar.ofBits .f32 0x43E00000#32))
      (maximumf (broadcast _ (Scalar.ofBits .f32 0xC3E00000#32)) (mulf (shapeCast ⟨3, ![R, n, 32]⟩ G hc)
        (broadcastTo ⟨3, ![R, n, 32]⟩ (shapeCast ⟨3, ![R, n, 1]⟩
          (exp2 (subf (broadcast _ (Scalar.ofBits .f32 0x00000000#32)) E)) h1) hb)))) ht) h2 (ix2 r c)
      = min Top (max Bot (G (ix2 r c) * Ideal.exp2 (0 - E (ix2 r ⟨c.val / 32, by omega⟩)))) := by
  rw [join_apply hW]
  have hg : c.val / 32 < n := by omega
  have hs : c.val % 32 < 32 := Nat.mod_lt _ (by norm_num)
  have hcut : shapeCast ⟨3, ![R, n, 32]⟩ G hc (ix3 r ⟨c.val / 32, hg⟩ ⟨c.val % 32, hs⟩) = G (ix2 r c) :=
    (cut_apply hW G hc r ⟨c.val / 32, hg⟩ ⟨c.val % 32, hs⟩).trans
      (congrArg (fun k => G (ix2 r k)) (Fin.ext (Nat.div_add_mod c.val 32)))
  have hrep (e : FVec Ideal ⟨2, ![R, n]⟩ .f32) :
      broadcastTo ⟨3, ![R, n, 32]⟩ (shapeCast ⟨3, ![R, n, 1]⟩ e h1) hb (ix3 r ⟨c.val / 32, hg⟩ ⟨c.val % 32, hs⟩)
        = e (ix2 r ⟨c.val / 32, hg⟩) := by
    rw [broadcastTo_apply _ hb _ (ix3 r ⟨c.val / 32, hg⟩ (0 : Fin 1))]
    · refine shapeCast_apply e h1 _ _ ?_
      rw [Shape.rowMajor_val_two, Shape.rowMajor_val_three]
      show r.val * n + c.val / 32 = (r.val * n + c.val / 32) * 1 + 0
      omega
    · intro a
      fin_cases a
      · show r.val = if R = 1 then 0 else r.val
        split <;> omega
      · show c.val / 32 = if n = 1 then 0 else c.val / 32
        split <;> omega
      · rfl
  change min Top (max Bot (shapeCast ⟨3, ![R, n, 32]⟩ G hc (ix3 r ⟨c.val / 32, hg⟩ ⟨c.val % 32, hs⟩)
    * broadcastTo ⟨3, ![R, n, 32]⟩ (shapeCast ⟨3, ![R, n, 1]⟩ (exp2 (subf (broadcast _ (Scalar.ofBits .f32 0x00000000#32)) E)) h1) hb
        (ix3 r ⟨c.val / 32, hg⟩ ⟨c.val % 32, hs⟩))) = _
  rw [hcut, hrep]
  change min Top (max Bot (G (ix2 r c) * Ideal.exp2 (Ideal.ofBits .f32 0x00000000#32 - E (ix2 r ⟨c.val / 32, hg⟩)))) = _
  rw [zero_eq]

end Cert.Swiglu

end
-- ==== Proof.Reference.lean ====
/-
  THE REFERENCE over the extended reals: its four results as the body computes them, read at an index.
-/
module

public import proofs.«01_k».proof.Proof.Gen.ReferenceIdeal.Frame
public import proofs.«01_k».proof.Proof.Grouped
public import proofs.«01_k».proof.Proof.Results

@[expose] public section

noncomputable section

namespace Cert.ReferenceIdeal.Swi

open Idealize.ShloMosaic Idealize.ShloMosaic.TcCoe Idealize.ShloMosaic.ValueIdx
open Cert.ReferenceIdeal Cert.ReferenceIdeal.Gen Cert.Swiglu

variable (x : FVec Ideal S26624x4096 .bf16) (y : FVec Ideal S26624x2048 .bf16)

/-- The gradient. -/
theorem grad_apply (r : Fin 26624) (c : Fin 4096) : k0_pay1 (F := Ideal) x y (ix2 r c) = Gr (R := 26624) x y r c := by
  have hx (h) : shapeCast S26624x4096 x h = x := funext fun i => shapeCast_apply x h i i rfl
  have hy (h) : shapeCast S26624x2048 y h = y := funext fun i => shapeCast_apply y h i i rfl
  have e0 (c : Fin 2048) : extractStridedSlice S26624x2048 ![0, 0] x slices_S26624x4096_o0_0_S26624x2048 (ix2 r c) = x (ix2 r ⟨c.val, by omega⟩) :=
    extractStridedSlice_apply ![0, 0] x _ _ _ (by intro a; fin_cases a <;> simp)
  have e1 (c : Fin 2048) : extractStridedSlice S26624x2048 ![0, 2048] x slices_S26624x4096_o0_2048_S26624x2048 (ix2 r c) = x (ix2 r ⟨2048 + c.val, by omega⟩) :=
    extractStridedSlice_apply ![0, 2048] x _ _ _ (by intro a; fin_cases a <;> simp)
  unfold k0_pay1 Gr
  rw [hx, hy]
  have left (v w : FVec Ideal S26624x2048 .f32) (hh) (h : c.val < 2048) :
      concatenate S26624x4096 1 [⟨S26624x2048, v⟩, ⟨S26624x2048, w⟩] hh (ix2 r c) = v (ix2 r ⟨c.val, h⟩) :=
    concatenate_pair_apply_left (t := S26624x4096) (s₁ := S26624x2048) (s₂ := S26624x2048) 1 v w hh (ix2 r c) rfl (ix2 r ⟨c.val, h⟩)
      (by intro a; fin_cases a <;> rfl)
  have right (v w : FVec Ideal S26624x2048 .f32) (hh) (h : ¬ c.val < 2048) (hc : c.val - 2048 < 2048) :
      concatenate S26624x4096 1 [⟨S26624x2048, v⟩, ⟨S26624x2048, w⟩] hh (ix2 r c) = w (ix2 r ⟨c.val - 2048, hc⟩) :=
    concatenate_pair_apply_right (t := S26624x4096) (s₁ := S26624x2048) (s₂ := S26624x2048) 1 v w hh (ix2 r c) rfl rfl (ix2 r ⟨c.val - 2048, hc⟩)
      (by intro a ha; fin_cases a <;> first | exact absurd rfl ha | rfl)
      (by show c.val - 2048 + 2048 = c.val; omega)
  by_cases h : c.val < 2048
  · rw [dif_pos h]
    refine (left _ _ _ h).trans ?_
    rw [← e0 ⟨c.val, h⟩, ← e1 ⟨c.val, h⟩]; rfl
  · rw [dif_neg h]
    have hc : c.val - 2048 < 2048 := by omega
    refine (right _ _ _ h hc).trans ?_
    rw [← e0 ⟨c.val - 2048, hc⟩]; rfl

/-- The gradient transposed. -/
theorem gradT_apply (c : Fin 4096) (r : Fin 26624) : k0_pay6 (F := Ideal) (k0_pay1 (F := Ideal) x y) (ix2 c r) = Gr (R := 26624) x y r c := by
  refine Eq.trans ?_ (grad_apply x y r c)
  exact transpose_ix2_apply (k0_pay1 (F := Ideal) x y) _ c r

/-- The exponents of the groups of a row. -/
theorem exponent_apply (r : Fin 26624) (g : Fin 128) :
    k0_pay2 (F := Ideal) x y (ix2 r g) = expo (rowMax (Gr (R := 26624) x y) r g.val (by omega)) := by
  refine (expo_apply _ (Named.named (F := Ideal) (φ := .f32) κ "ln2" 0x3F317218#32) rfl (ix2 r g)).trans (congrArg expo ?_)
  exact (groupMax (n := 128) rfl (k0_pay1 (F := Ideal) x y) _ _ _ _ r g).trans (rowMax_congr (grad_apply x y) r g.val _)

/-- The exponents of the groups of a column. -/
theorem exponentT_apply (c : Fin 4096) (k : Fin 832) :
    k0_pay7 (F := Ideal) (k0_pay1 (F := Ideal) x y) (ix2 c k) = expo (rowMax (fun c r => Gr (R := 26624) x y r c) c k.val (by omega)) := by
  refine (expo_apply _ (Named.named (F := Ideal) (φ := .f32) κ "ln2" 0x3F317218#32) rfl (ix2 c k)).trans (congrArg expo ?_)
  exact (groupMax (n := 832) rfl (k0_pay6 (F := Ideal) (k0_pay1 (F := Ideal) x y)) _ _ _ _ c k).trans (rowMax_congr (gradT_apply x y) c k.val _)

theorem exp2_apply {s : Shape} (v : FVec Ideal s .f32) (i : s.Idx) : exp2 v i = Ideal.exp2 (v i) := rfl

/-- The scales. -/
theorem scale_apply (r : Fin 26624) (g : Fin 128) :
    k0_pay3 (F := Ideal) x y (ix2 r g) = resScales (Gr (R := 26624) x y) r g := by
  refine (exp2_apply (k0_pay2 (F := Ideal) x y) (ix2 r g)).trans ?_
  rw [exponent_apply]; rfl

theorem scaleT_apply (c : Fin 4096) (k : Fin 832) :
    k0_pay8 (F := Ideal) (k0_pay1 (F := Ideal) x y) (ix2 c k) = resScalesT (Gr (R := 26624) x y) c k := by
  refine (exp2_apply (k0_pay7 (F := Ideal) (k0_pay1 (F := Ideal) x y)) (ix2 c k)).trans ?_
  rw [exponentT_apply]; rfl

/-- The codes. -/
theorem codes_apply (r : Fin 26624) (c : Fin 4096) :
    k0_pay5 (F := Ideal) (Scalar.ofBits .f32 0x43E00000#32) (k0_pay4 (F := Ideal) x y) (ix2 r c)
      = resCodes (Gr (R := 26624) x y) r c := by
  refine (code_apply (n := 128) rfl (k0_pay1 (F := Ideal) x y) (k0_pay2 (F := Ideal) x y) _ _ _ _ _ r c).trans ?_
  rw [grad_apply, exponent_apply]; rfl

theorem codesT_apply (c : Fin 4096) (r : Fin 26624) :
    k0_pay9 (F := Ideal) (k0_pay1 (F := Ideal) x y) (ix2 c r)
      = resCodesT (Gr (R := 26624) x y) c r := by
  refine (code_apply (n := 832) rfl (k0_pay6 (F := Ideal) (k0_pay1 (F := Ideal) x y)) (k0_pay7 (F := Ideal) (k0_pay1 (F := Ideal) x y)) _ _ _ _ _ c r).trans ?_
  rw [gradT_apply, exponentT_apply]; rfl

end Cert.ReferenceIdeal.Swi

end
-- ==== Proof.ReferenceArrays.lean ====
/-
  WHAT THE REFERENCE LEAVES IN ITS FOUR RESULT ARRAYS, over the extended reals: one step writes each of them whole.
-/
module

public import proofs.«01_k».proof.Proof.Reference
public import Idealize.ShloMosaic.Lib.Pipeline.ValueKit
public import Idealize.ShloMosaic.Lib.Claim

@[expose] public section

set_option maxRecDepth 16384

noncomputable section

namespace Cert.ReferenceIdeal.Swi

open Idealize.ShloMosaic Idealize.ShloMosaic.TcCoe
open Cert.ReferenceIdeal Cert.ReferenceIdeal.Gen Cert.Swiglu

variable (m : (ℓ : Loc nD τ sig) → Buf (Elt Ideal) ℓ)

/-- The gradient of all rows. -/
def GG (c : Dev nD) : Fin 26624 → Fin 4096 → EReal := Gr (R := 26624) (V m c main_v0) (V m c main_v1)

theorem x_block (c : Dev nD) (t : Fin cfg0.N) : iblk m c 0 t = V m c main_v0 := by
  have e : ∀ t : Fin cfg0.N, win0_0.index t = ![0, 0] := (by decide +kernel : ∀ t : Fin grid0.N, _)
  funext i
  blk_ext [iblk, e]

theorem y_block (c : Dev nD) (t : Fin cfg0.N) : iblk m c 1 t = V m c main_v1 := by
  have e : ∀ t : Fin cfg0.N, win0_1.index t = ![0, 0] := (by decide +kernel : ∀ t : Fin grid0.N, _)
  funext i
  blk_ext [iblk, e]

theorem off_zero : (![0, 0] : Fin 2 → Nat) = fun _ => 0 := by decide

theorem co_array (c : Dev nD) : (dats m 0 c).arrAt 2 cfg0.N = fun i => resCodes (GG m c) (i 0) (i 1) := by
  have e : ∀ t : Fin cfg0.N, win0_2.index t = ![0, 0] := (by decide +kernel : ∀ t : Fin grid0.N, _)
  refine (dats m 0 c).arrAt_eq_of_covers 2 _ (by decide +kernel) fun t hf y => ?_
  blk_simp [e]
  rw [after0_2, x_block, y_block]
  unfold out0_2
  rw [View.canon_unit_zero off_zero, View.ld_unit_zero off_zero, View.ld_unit_zero off_zero]
  refine (congrArg (k0_pay5 (F := Ideal) _ _) (ValueIdx.eq_ix2 (n0 := 26624) (n1 := 4096) y)).trans ((codes_apply _ _ _ _).trans ?_)
  refine congrArg₂ (resCodes (GG m c)) (Fin.ext ?_) (Fin.ext ?_) <;> blk_simp [e] <;> rfl

theorem sc_array (c : Dev nD) : (dats m 0 c).arrAt 3 cfg0.N = fun i => resScales (GG m c) (i 0) (i 1) := by
  have e : ∀ t : Fin cfg0.N, win0_3.index t = ![0, 0] := (by decide +kernel : ∀ t : Fin grid0.N, _)
  refine (dats m 0 c).arrAt_eq_of_covers 3 _ (by decide +kernel) fun t hf y => ?_
  blk_simp [e]
  rw [after0_3, x_block, y_block]
  unfold out0_3
  rw [View.canon_unit_zero off_zero, View.ld_unit_zero off_zero, View.ld_unit_zero off_zero]
  refine (congrArg (k0_pay3 (F := Ideal) _ _) (ValueIdx.eq_ix2 (n0 := 26624) (n1 := 128) y)).trans ((scale_apply _ _ _ _).trans ?_)
  refine congrArg₂ (resScales (GG m c)) (Fin.ext ?_) (Fin.ext ?_) <;> blk_simp [e] <;> rfl

theorem ct_array (c : Dev nD) : (dats m 0 c).arrAt 4 cfg0.N = fun i => resCodesT (GG m c) (i 0) (i 1) := by
  have e : ∀ t : Fin cfg0.N, win0_4.index t = ![0, 0] := (by decide +kernel : ∀ t : Fin grid0.N, _)
  refine (dats m 0 c).arrAt_eq_of_covers 4 _ (by decide +kernel) fun t hf y => ?_
  blk_simp [e]
  rw [after0_4, x_block, y_block]
  unfold out0_4 k0_pay10
  rw [View.canon_unit_zero off_zero, View.ld_unit_zero off_zero, View.ld_unit_zero off_zero]
  refine (congrArg (k0_pay9 (F := Ideal) _) (ValueIdx.eq_ix2 (n0 := 4096) (n1 := 26624) y)).trans ((codesT_apply _ _ _ _).trans ?_)
  refine congrArg₂ (resCodesT (GG m c)) (Fin.ext ?_) (Fin.ext ?_) <;> blk_simp [e] <;> rfl

theorem st_array (c : Dev nD) : (dats m 0 c).arrAt 5 cfg0.N = fun i => resScalesT (GG m c) (i 0) (i 1) := by
  have e : ∀ t : Fin cfg0.N, win0_5.index t = ![0, 0] := (by decide +kernel : ∀ t : Fin grid0.N, _)
  refine (dats m 0 c).arrAt_eq_of_covers 5 _ (by decide +kernel) fun t hf y => ?_
  blk_simp [e]
  rw [after0_5, x_block, y_block]
  unfold out0_5 k0_pay10
  rw [View.canon_unit_zero off_zero, View.ld_unit_zero off_zero, View.ld_unit_zero off_zero]
  refine (congrArg (k0_pay8 (F := Ideal) _) (ValueIdx.eq_ix2 (n0 := 4096) (n1 := 832) y)).trans ((scaleT_apply _ _ _ _).trans ?_)
  refine congrArg₂ (resScalesT (GG m c)) (Fin.ext ?_) (Fin.ext ?_) <;> blk_simp [e] <;> rfl

end Cert.ReferenceIdeal.Swi

end
-- ==== Proof.Algebraic.lean ====
/-
  THE VALUE CLAIM: over the extended reals, from memories that agree on the two operands, the kernel and the reference both
  run and leave the same four arrays.
-/
module

public import proofs.«01_k».proof.Defs
public import proofs.«01_k».proof.Proof.Arrays
public import proofs.«01_k».proof.Proof.ReferenceArrays

@[expose] public section

noncomputable section

namespace Cert.KernelIdeal.Swi

open Idealize.ShloMosaic Idealize.ShloMosaic.TcCoe Idealize.SL.Sem
open Cert.KernelIdeal Cert.Swiglu

attribute [local instance] Cert.KernelIdeal.Gen.facts

variable (m : (ℓ : Loc nD τ sig) → Buf (Elt Ideal) ℓ) (ρ : Dev nD → PrngReg)

/-- The kernel's run: its four results. -/
theorem run_values : θ_run (defs (F := Ideal)) (onTc (τ := τ) (main (F := Ideal))) ⟨m, fun _ => 0, ρ⟩ (fun r => ∀ c : Dev nD,
      r.2.mem ((c : Thread nD τ).loc main_v7_0) = (fun i => resCodes (GG m c) (i 0) (i 1))
      ∧ r.2.mem ((c : Thread nD τ).loc main_v7_1) = (fun i => resScales (GG m c) (i 0) (i 1))
      ∧ r.2.mem ((c : Thread nD τ).loc main_v7_2) = (fun i => resCodesT (GG m c) (i 0) (i 1))
      ∧ r.2.mem ((c : Thread nD τ).loc main_v7_3) = (fun i => resScalesT (GG m c) (i 0) (i 1))) :=
  (θ_run defs _ _).mono (fun _ h c => ⟨(h.out_eq c 3).trans (co_array m c), (h.out_eq c 4).trans (sc_array m c),
    (h.out_eq c 5).trans (ct_array m c), (h.out_eq c 6).trans (st_array m c)⟩) (run_main m ρ)

end Cert.KernelIdeal.Swi

namespace Cert.ReferenceIdeal.Swi

open Idealize.ShloMosaic Idealize.ShloMosaic.TcCoe Idealize.SL.Sem
open Cert.ReferenceIdeal Cert.ReferenceIdeal.Gen Cert.Swiglu

attribute [local instance] Cert.ReferenceIdeal.Gen.facts

variable (m : (ℓ : Loc nD τ sig) → Buf (Elt Ideal) ℓ) (ρ : Dev nD → PrngReg)

/-- The reference's run: its four results. -/
theorem run_values : θ_run (defs (F := Ideal)) (onTc (τ := τ) (main (F := Ideal))) ⟨m, fun _ => 0, ρ⟩ (fun r => ∀ c : Dev nD,
      r.2.mem ((c : Thread nD τ).loc main_v2_0) = (fun i => resCodes (GG m c) (i 0) (i 1))
      ∧ r.2.mem ((c : Thread nD τ).loc main_v2_1) = (fun i => resScales (GG m c) (i 0) (i 1))
      ∧ r.2.mem ((c : Thread nD τ).loc main_v2_2) = (fun i => resCodesT (GG m c) (i 0) (i 1))
      ∧ r.2.mem ((c : Thread nD τ).loc main_v2_3) = (fun i => resScalesT (GG m c) (i 0) (i 1))) :=
  (θ_run defs _ _).mono (fun _ h c => ⟨(h.out_eq c 2).trans (co_array m c), (h.out_eq c 3).trans (sc_array m c),
    (h.out_eq c 4).trans (ct_array m c), (h.out_eq c 5).trans (st_array m c)⟩) (run_main m ρ)

theorem V_x (c : Dev nD) : V m c main_v0 = shapeCast S26624x4096 (m ((c : Thread nD τ).loc main_arg0)) Gen.shapeCasts_S26x1024x4096_S26624x4096 := rfl

theorem V_y (c : Dev nD) : V m c main_v1 = shapeCast S26624x2048 (m ((c : Thread nD τ).loc main_arg1)) Gen.shapeCasts_S26x1024x2048_S26624x2048 := rfl

end Cert.ReferenceIdeal.Swi

namespace Cert.Proof

open Idealize.ShloMosaic Idealize.SL.Sem

theorem GG_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Swi.GG m' c = Cert.KernelIdeal.Swi.GG m c := by
  unfold Cert.ReferenceIdeal.Swi.GG Cert.KernelIdeal.Swi.GG
  rw [Cert.KernelIdeal.Swi.V_x, Cert.KernelIdeal.Swi.V_y, Cert.ReferenceIdeal.Swi.V_x, Cert.ReferenceIdeal.Swi.V_y, h0, h1]

theorem algebraic : Cert.algebraic_KernelIdeal_ReferenceIdeal (hKernelIdeal := Cert.KernelIdeal.Gen.facts) (hReferenceIdeal := Cert.ReferenceIdeal.Gen.facts) := by
  intro m g m' g' _ hag
  have hG : ∀ c, Cert.ReferenceIdeal.Swi.GG m' c = Cert.KernelIdeal.Swi.GG m c := fun c => GG_eq m m' c (hag c).1 (hag c).2
  refine ⟨_, _, _, _,
    (θ_run _ _ _).mono (fun _ h c => ⟨(h.1 c).1, (h.1 c).2.1, (h.1 c).2.2.1, (h.1 c).2.2.2, h.2 c⟩)
      (θ_run_and (Cert.KernelIdeal.Swi.run_values m g) (Cert.KernelIdeal.Swi.unchanged m g)),
    (θ_run _ _ _).mono (fun _ h c => ?_) (θ_run_and (Cert.ReferenceIdeal.Swi.run_values m' g') (Cert.ReferenceIdeal.Gen.unchanged m' g'))⟩
  have hv := h.1 c
  rw [hG c] at hv
  exact ⟨hv.1, hv.2.1, hv.2.2.1, hv.2.2.2, h.2 c⟩

end Cert.Proof

end
-- ==== Proof.lean ====
/-
  The claims, assembled: the three frames, `preserves` and `algebraic`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Run
public import proofs.«01_k».proof.Proof.KernelIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Swi.frame m ρ, fun m ρ _ => Cert.KernelIdeal.Swi.frame m ρ,
  fun m ρ _ => Cert.ReferenceIdeal.Gen.frame m ρ,
  ⟨IdealRules.named_const.statement Cert.KernelIdeal.κ "neg_log2e" .f32 0xBFB8AA3B#32 ((-((Real.log 2)⁻¹) : ℝ) : EReal) rfl,
  IdealRules.named_const.statement Cert.KernelIdeal.κ "ln2" .f32 0x3F317218#32 ((Real.log 2 : ℝ) : EReal) rfl⟩,
  algebraic⟩

end Cert.Proof

end
